-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_score_nonneg [hPre_score_nonneg : Cert.Pre_score_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_score_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_score_nonneg [hPre_score_nonneg : Cert.Pre_score_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_score_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_score_nonneg [hKernelIdeal : Cert.KernelIdeal.Facts] [hPre_score_nonneg : Cert.Pre_score_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_score_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_score_nonneg [hReferenceIdeal : Cert.ReferenceIdeal.Facts] [hPre_score_nonneg : Cert.Pre_score_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_score_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_score_nonneg [hKernelIdeal : Cert.KernelIdeal.Facts] [hReferenceIdeal : Cert.ReferenceIdeal.Facts] [hPre_score_nonneg : Cert.Pre_score_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_score_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v86)) (v1 : (c : Dev Cert.KernelIdeal.nD) → Buf (Elt Ideal) ((c.tc : Thread Cert.KernelIdeal.nD Cert.KernelIdeal.τ).loc Cert.KernelIdeal.main_v88)) (v2 : (c : Dev Cert.KernelIdeal.nD) → Buf (Elt Ideal) ((c.tc : Thread Cert.KernelIdeal.nD Cert.KernelIdeal.τ).loc Cert.KernelIdeal.main_v90)) (v3 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_v88) = v1 c
          ∧ r.2.mem ((c.tc : Thread Cert.KernelIdeal.nD Cert.KernelIdeal.τ).loc Cert.KernelIdeal.main_v90) = v2 c
          ∧ r.2.mem ((c.tc : Thread Cert.KernelIdeal.nD Cert.KernelIdeal.τ).loc Cert.KernelIdeal.main_v91) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v280) = v0 c
          ∧ r.2.mem ((c.tc : Thread Cert.ReferenceIdeal.nD Cert.ReferenceIdeal.τ).loc Cert.ReferenceIdeal.main_v282) = v1 c
          ∧ r.2.mem ((c.tc : Thread Cert.ReferenceIdeal.nD Cert.ReferenceIdeal.τ).loc Cert.ReferenceIdeal.main_v380) = v2 c
          ∧ r.2.mem ((c.tc : Thread Cert.ReferenceIdeal.nD Cert.ReferenceIdeal.τ).loc Cert.ReferenceIdeal.main_v218) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_score_nonneg : Cert.Pre_score_nonneg.Facts),
    quiescent_Kernel (hKernel := hKernel)
    ∧ quiescent_KernelIdeal (hKernelIdeal := hKernelIdeal)
    ∧ quiescent_KernelIdeal_pre_score_nonneg (hKernelIdeal := hKernelIdeal) (hPre_score_nonneg := hPre_score_nonneg)
    ∧ quiescent_ReferenceIdeal (hReferenceIdeal := hReferenceIdeal)
    ∧ quiescent_ReferenceIdeal_pre_score_nonneg (hReferenceIdeal := hReferenceIdeal) (hPre_score_nonneg := hPre_score_nonneg)
    ∧ preserves_Kernel_KernelIdeal
    ∧ algebraic_KernelIdeal_ReferenceIdeal_pre_score_nonneg (hKernelIdeal := hKernelIdeal) (hReferenceIdeal := hReferenceIdeal) (hPre_score_nonneg := hPre_score_nonneg)
-- ==== Pre_score_nonneg.lean ====
abbrev S1x4x20000 : Shape := ⟨3, ![1, 4, 20000]⟩
abbrev S1x1x20000 : Shape := ⟨3, ![1, 1, 20000]⟩
abbrev S1x256x20000 : Shape := ⟨3, ![1, 256, 20000]⟩
abbrev S6x256x256 : Shape := ⟨3, ![6, 256, 256]⟩
abbrev S6x256 : Shape := ⟨2, ![6, 256]⟩
abbrev S3x256 : Shape := ⟨2, ![3, 256]⟩
abbrev S3 : Shape := ⟨1, ![3]⟩
abbrev S4x256x256 : Shape := ⟨3, ![4, 256, 256]⟩
abbrev S4x256 : Shape := ⟨2, ![4, 256]⟩
abbrev S1x256 : Shape := ⟨2, ![1, 256]⟩
abbrev S1 : Shape := ⟨1, ![1]⟩
abbrev S4 : Shape := ⟨1, ![4]⟩
abbrev S_ : Shape := ⟨0, ![]⟩

class Facts : Prop where
  bcast_S_S1x1x20000 : S_.BroadcastsInDim S1x1x20000 (![] : Fin 0 → Fin S1x1x20000.rank)
  reducesTo_S1x1x20000_S_d0_1_2 : S1x1x20000.ReducesTo [0, 1, 2] S_
  h_S_ : 0 < S_.numel

variable [Facts]

def fn {F : FTy → Type} [FloatOps F] (main_arg0 : FVec F S1x4x20000 .f32) (main_arg1 : FVec F S1x1x20000 .f32) (main_arg2 : FVec F S1x256x20000 .f32) (main_arg3 : FVec F S6x256x256 .f32) (main_arg4 : FVec F S6x256 .f32) (main_arg5 : FVec F S3x256 .f32) (main_arg6 : FVec F S3 .f32) (main_arg7 : FVec F S4x256x256 .f32) (main_arg8 : FVec F S4x256 .f32) (main_arg9 : FVec F S1x256 .f32) (main_arg10 : FVec F S1 .f32) (main_arg11 : FVec F S6x256x256 .f32) (main_arg12 : FVec F S6x256 .f32) (main_arg13 : FVec F S4x256 .f32) (main_arg14 : FVec F S4 .f32) : IVec S_ 1 :=
  let main_cst : FVec F S_ .f32 := constant S_ .f32 0x00000000#32
  let main_v0 : FVec F S1x1x20000 .f32 := broadcastInDim S1x1x20000 ![] bcast_S_S1x1x20000 main_cst
  let main_v1 : IVec S1x1x20000 1 := cmpf .oge main_arg1 main_v0
  let main_c : IVec S_ 1 := constantI S_ 1 1#1
  let main_v2 : IVec S_ 1 := (fun x v => Host.reduce IntOp.andi x v reducesTo_S1x1x20000_S_d0_1_2 h_S_) main_v1 main_c
  main_v2
-- ==== Kernel.lean ====
abbrev S1x4x20000 : Shape := ⟨3, ![1, 4, 20000]⟩
abbrev S1x1x20000 : Shape := ⟨3, ![1, 1, 20000]⟩
abbrev S1x256x20000 : Shape := ⟨3, ![1, 256, 20000]⟩
abbrev S6x256x256 : Shape := ⟨3, ![6, 256, 256]⟩
abbrev S6x256 : Shape := ⟨2, ![6, 256]⟩
abbrev S3x256 : Shape := ⟨2, ![3, 256]⟩
abbrev S3 : Shape := ⟨1, ![3]⟩
abbrev S4x256x256 : Shape := ⟨3, ![4, 256, 256]⟩
abbrev S4x256 : Shape := ⟨2, ![4, 256]⟩
abbrev S1x256 : Shape := ⟨2, ![1, 256]⟩
abbrev S1 : Shape := ⟨1, ![1]⟩
abbrev S4 : Shape := ⟨1, ![4]⟩
abbrev S1x20000 : Shape := ⟨2, ![1, 20000]⟩
abbrev S20000 : Shape := ⟨1, ![20000]⟩
abbrev S_ : Shape := ⟨0, ![]⟩
abbrev S20000x1 : Shape := ⟨2, ![20000, 1]⟩
abbrev S1x20480 : Shape := ⟨2, ![1, 20480]⟩
abbrev S2560x8 : Shape := ⟨2, ![2560, 8]⟩
abbrev S8x2560 : Shape := ⟨2, ![8, 2560]⟩
abbrev S1x1000 : Shape := ⟨2, ![1, 1000]⟩
abbrev S1x1x1000 : Shape := ⟨3, ![1, 1, 1000]⟩
abbrev S7x1x1000 : Shape := ⟨3, ![7, 1, 1000]⟩
abbrev S20x1x1000 : Shape := ⟨3, ![20, 1, 1000]⟩
abbrev S256x20000 : Shape := ⟨2, ![256, 20000]⟩
abbrev S256x20x1000 : Shape := ⟨3, ![256, 20, 1000]⟩
abbrev S20x256x1000 : Shape := ⟨3, ![20, 256, 1000]⟩
abbrev S6x256x1 : Shape := ⟨3, ![6, 256, 1]⟩
abbrev S3x1 : Shape := ⟨2, ![3, 1]⟩
abbrev S4x256x1 : Shape := ⟨3, ![4, 256, 1]⟩
abbrev S1x1 : Shape := ⟨2, ![1, 1]⟩
abbrev S4x1 : Shape := ⟨2, ![4, 1]⟩
abbrev S20x4x1000 : Shape := ⟨3, ![20, 4, 1000]⟩
abbrev S1x256x1000 : Shape := ⟨3, ![1, 256, 1000]⟩
abbrev S1x4x1000 : Shape := ⟨3, ![1, 4, 1000]⟩
abbrev S8x1000 : Shape := ⟨2, ![8, 1000]⟩
abbrev S8x128 : Shape := ⟨2, ![8, 128]⟩
abbrev S8x1 : Shape := ⟨2, ![8, 1]⟩
abbrev S1000 : Shape := ⟨1, ![1000]⟩
abbrev S256x1000 : Shape := ⟨2, ![256, 1000]⟩
abbrev S1x256x256 : Shape := ⟨3, ![1, 256, 256]⟩
abbrev S256x256 : Shape := ⟨2, ![256, 256]⟩
abbrev S1x256x1 : Shape := ⟨3, ![1, 256, 1]⟩
abbrev S256x1 : Shape := ⟨2, ![256, 1]⟩
abbrev S3x1000 : Shape := ⟨2, ![3, 1000]⟩
abbrev S4x1000 : Shape := ⟨2, ![4, 1000]⟩
abbrev S4x20x1000 : Shape := ⟨3, ![4, 20, 1000]⟩

abbrev nBuf : Space → Nat
  | .hbm => 132
  | .vmem => 40
  | .smem => 0
  | _ => 0

abbrev hbmTy0_0 (i : Nat) : BufTy := match i % 128 with
  | 0 => ⟨S1x4x20000, .f32⟩
  | 1 => ⟨S1x1x20000, .f32⟩
  | 2 => ⟨S1x256x20000, .f32⟩
  | 3 => ⟨S6x256x256, .f32⟩
  | 4 => ⟨S6x256, .f32⟩
  | 5 => ⟨S3x256, .f32⟩
  | 6 => ⟨S3, .f32⟩
  | 7 => ⟨S4x256x256, .f32⟩
  | 8 => ⟨S4x256, .f32⟩
  | 9 => ⟨S1x256, .f32⟩
  | 10 => ⟨S1, .f32⟩
  | 11 => ⟨S6x256x256, .f32⟩
  | 12 => ⟨S6x256, .f32⟩
  | 13 => ⟨S4x256, .f32⟩
  | 14 => ⟨S4, .f32⟩
  | 15 => ⟨S1x1x20000, .f32⟩
  | 16 => ⟨S1x20000, .f32⟩
  | 17 => ⟨S1x1x20000, .f32⟩
  | 18 => ⟨S1x20000, .f32⟩
  | 19 => ⟨S1x1x20000, .f32⟩
  | 20 => ⟨S1x20000, .f32⟩
  | 21 => ⟨S1x1x20000, .f32⟩
  | 22 => ⟨S1x20000, .f32⟩
  | 23 => ⟨S1x20000, .f32⟩
  | 24 => ⟨S1x20000, .f32⟩
  | 25 => ⟨S1x20000, .f32⟩
  | 26 => ⟨S20000, .f32⟩
  | 27 => ⟨S20000, .i32⟩
  | 28 => ⟨S20000, .f32⟩
  | 29 => ⟨S20000, .i32⟩
  | 30 => ⟨S20000, .f32⟩
  | 31 => ⟨S20000, .i32⟩
  | 32 => ⟨S_, .i32⟩
  | 33 => ⟨S20000, .i32⟩
  | 34 => ⟨S_, .i32⟩
  | 35 => ⟨S20000, .i32⟩
  | 36 => ⟨S20000, .i1⟩
  | 37 => ⟨S_, .i32⟩
  | 38 => ⟨S20000, .i32⟩
  | 39 => ⟨S20000, .i32⟩
  | 40 => ⟨S20000, .i32⟩
  | 41 => ⟨S20000x1, .i32⟩
  | 42 => ⟨S20000, .i32⟩
  | 43 => ⟨S_, .f32⟩
  | 44 => ⟨S20000, .f32⟩
  | 45 => ⟨S20000, .i1⟩
  | 46 => ⟨S20000, .f32⟩
  | 47 => ⟨S20000, .f32⟩
  | 48 => ⟨S_, .f32⟩
  | 49 => ⟨S20000, .f32⟩
  | 50 => ⟨S20000, .f32⟩
  | 51 => ⟨S20000, .f32⟩
  | 52 => ⟨S1x20000, .f32⟩
  | 53 => ⟨S20000, .f32⟩
  | 54 => ⟨S_, .f32⟩
  | 55 => ⟨S20000, .f32⟩
  | 56 => ⟨S20000, .f32⟩
  | 57 => ⟨S1x20000, .f32⟩
  | 58 => ⟨S_, .f32⟩
  | 59 => ⟨S_, .f32⟩
  | 60 => ⟨S1x20480, .f32⟩
  | 61 => ⟨S2560x8, .f32⟩
  | 62 => ⟨S8x2560, .f32⟩
  | 63 => ⟨S_, .f32⟩
  | 64 => ⟨S_, .f32⟩
  | 65 => ⟨S1x20480, .f32⟩
  | 66 => ⟨S2560x8, .f32⟩
  | 67 => ⟨S8x2560, .f32⟩
  | 68 => ⟨S_, .f32⟩
  | 69 => ⟨S_, .f32⟩
  | 70 => ⟨S1x20480, .f32⟩
  | 71 => ⟨S2560x8, .f32⟩
  | 72 => ⟨S8x2560, .f32⟩
  | 73 => ⟨S_, .f32⟩
  | 74 => ⟨S_, .f32⟩
  | 75 => ⟨S1x20480, .f32⟩
  | 76 => ⟨S2560x8, .f32⟩
  | 77 => ⟨S8x2560, .f32⟩
  | 78 => ⟨S_, .f32⟩
  | 79 => ⟨S_, .f32⟩
  | 80 => ⟨S1x20480, .f32⟩
  | 81 => ⟨S2560x8, .f32⟩
  | 82 => ⟨S8x2560, .f32⟩
  | 83 => ⟨S_, .f32⟩
  | 84 => ⟨S_, .f32⟩
  | 85 => ⟨S1x20480, .f32⟩
  | 86 => ⟨S2560x8, .f32⟩
  | 87 => ⟨S8x2560, .f32⟩
  | 88 => ⟨S_, .f32⟩
  | 89 => ⟨S_, .f32⟩
  | 90 => ⟨S1x20480, .f32⟩
  | 91 => ⟨S2560x8, .f32⟩
  | 92 => ⟨S8x2560, .f32⟩
  | 93 => ⟨S1x1000, .f32⟩
  | 94 => ⟨S1x1000, .f32⟩
  | 95 => ⟨S1x1000, .f32⟩
  | 96 => ⟨S1x1000, .f32⟩
  | 97 => ⟨S1x1000, .f32⟩
  | 98 => ⟨S1x1000, .f32⟩
  | 99 => ⟨S1x1000, .f32⟩
  | 100 => ⟨S1x1x1000, .f32⟩
  | 101 => ⟨S1x1x1000, .f32⟩
  | 102 => ⟨S1x1x1000, .f32⟩
  | 103 => ⟨S1x1x1000, .f32⟩
  | 104 => ⟨S1x1x1000, .f32⟩
  | 105 => ⟨S1x1x1000, .f32⟩
  | 106 => ⟨S1x1x1000, .f32⟩
  | 107 => ⟨S7x1x1000, .f32⟩
  | 108 => ⟨S20x1x1000, .f32⟩
  | 109 => ⟨S20x1x1000, .f32⟩
  | 110 => ⟨S20x1x1000, .f32⟩
  | 111 => ⟨S20x1x1000, .f32⟩
  | 112 => ⟨S20x1x1000, .f32⟩
  | 113 => ⟨S256x20000, .f32⟩
  | 114 => ⟨S256x20x1000, .f32⟩
  | 115 => ⟨S20x256x1000, .f32⟩
  | 116 => ⟨S6x256x1, .f32⟩
  | 117 => ⟨S3x1, .f32⟩
  | 118 => ⟨S4x256x1, .f32⟩
  | 119 => ⟨S1x1, .f32⟩
  | 120 => ⟨S6x256x1, .f32⟩
  | 121 => ⟨S4x1, .f32⟩
  | 122 => ⟨S20x1x1000, .f32⟩
  | 123 => ⟨S20x4x1000, .f32⟩
  | 124 => ⟨S20x4x1000, .f32⟩
  | 125 => ⟨S20x1x1000, .f32⟩
  | 126 => ⟨S1x1x20000, .f32⟩
  | 127 => ⟨S4x20x1000, .f32⟩
  | _ => ⟨S1x4x20000, .f32⟩

abbrev hbmTy0_1 (i : Nat) : BufTy := match i % 128 with
  | 0 => ⟨S1x4x20000, .f32⟩
  | 1 => ⟨S4x20x1000, .f32⟩
  | 2 => ⟨S1x4x20000, .f32⟩
  | 3 => ⟨S1x1x20000, .f32⟩
  | _ => ⟨S1x4x20000, .f32⟩

abbrev hbmTy (i : Nat) : BufTy := match i / 128 with
  | 0 => hbmTy0_0 i
  | 1 => hbmTy0_1 i
  | _ => ⟨S1x4x20000, .f32⟩

abbrev bufTy : (tb : Table) → Fin (tcTables nBuf tb) → BufTy
  | .hbm, ⟨i, _⟩ => hbmTy i
  | .local _ .vmem, ⟨0, _⟩ => ⟨S1x1x1000, .f32⟩
  | .local _ .vmem, ⟨1, _⟩ => ⟨S1x1x1000, .f32⟩
  | .local _ .vmem, ⟨2, _⟩ => ⟨S1x1x1000, .f32⟩
  | .local _ .vmem, ⟨3, _⟩ => ⟨S1x1x1000, .f32⟩
  | .local _ .vmem, ⟨4, _⟩ => ⟨S1x1x1000, .f32⟩
  | .local _ .vmem, ⟨5, _⟩ => ⟨S1x1x1000, .f32⟩
  | .local _ .vmem, ⟨6, _⟩ => ⟨S1x1x1000, .f32⟩
  | .local _ .vmem, ⟨7, _⟩ => ⟨S1x1x1000, .f32⟩
  | .local _ .vmem, ⟨8, _⟩ => ⟨S1x1x1000, .f32⟩
  | .local _ .vmem, ⟨9, _⟩ => ⟨S1x1x1000, .f32⟩
  | .local _ .vmem, ⟨10, _⟩ => ⟨S7x1x1000, .f32⟩
  | .local _ .vmem, ⟨11, _⟩ => ⟨S8x2560, .f32⟩
  | .local _ .vmem, ⟨12, _⟩ => ⟨S8x2560, .f32⟩
  | .local _ .vmem, ⟨13, _⟩ => ⟨S8x2560, .f32⟩
  | .local _ .vmem, ⟨14, _⟩ => ⟨S8x2560, .f32⟩
  | .local _ .vmem, ⟨15, _⟩ => ⟨S8x2560, .f32⟩
  | .local _ .vmem, ⟨16, _⟩ => ⟨S8x2560, .f32⟩
  | .local _ .vmem, ⟨17, _⟩ => ⟨S8x2560, .f32⟩
  | .local _ .vmem, ⟨18, _⟩ => ⟨S1x256x1000, .f32⟩
  | .local _ .vmem, ⟨19, _⟩ => ⟨S1x256x1000, .f32⟩
  | .local _ .vmem, ⟨20, _⟩ => ⟨S6x256x256, .f32⟩
  | .local _ .vmem, ⟨21, _⟩ => ⟨S6x256x1, .f32⟩
  | .local _ .vmem, ⟨22, _⟩ => ⟨S3x256, .f32⟩
  | .local _ .vmem, ⟨23, _⟩ => ⟨S3x1, .f32⟩
  | .local _ .vmem, ⟨24, _⟩ => ⟨S4x256x256, .f32⟩
  | .local _ .vmem, ⟨25, _⟩ => ⟨S4x256x1, .f32⟩
  | .local _ .vmem, ⟨26, _⟩ => ⟨S1x256, .f32⟩
  | .local _ .vmem, ⟨27, _⟩ => ⟨S1x1, .f32⟩
  | .local _ .vmem, ⟨28, _⟩ => ⟨S6x256x256, .f32⟩
  | .local _ .vmem, ⟨29, _⟩ => ⟨S6x256x1, .f32⟩
  | .local _ .vmem, ⟨30, _⟩ => ⟨S4x256, .f32⟩
  | .local _ .vmem, ⟨31, _⟩ => ⟨S4x1, .f32⟩
  | .local _ .vmem, ⟨32, _⟩ => ⟨S1x1x1000, .f32⟩
  | .local _ .vmem, ⟨33, _⟩ => ⟨S1x1x1000, .f32⟩
  | .local _ .vmem, ⟨34, _⟩ => ⟨S1x4x1000, .f32⟩
  | .local _ .vmem, ⟨35, _⟩ => ⟨S1x4x1000, .f32⟩
  | .local _ .vmem, ⟨36, _⟩ => ⟨S1x4x1000, .f32⟩
  | .local _ .vmem, ⟨37, _⟩ => ⟨S1x4x1000, .f32⟩
  | .local _ .vmem, ⟨38, _⟩ => ⟨S1x1x1000, .f32⟩
  | .local _ .vmem, ⟨39, _⟩ => ⟨S1x1x1000, .f32⟩
  | _, _ => ⟨S1x4x20000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call0_v0 : Ref sig .tc := ⟨.hbm, 29, rfl⟩
abbrev main_call0_v1_0 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_c_0 : Ref sig .tc := ⟨.hbm, 34, rfl⟩
abbrev main_v16 : Ref sig .tc := ⟨.hbm, 35, rfl⟩
abbrev main_v17 : Ref sig .tc := ⟨.hbm, 36, rfl⟩
abbrev main_c_1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_2 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_3 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_4 : Ref sig .tc := ⟨.hbm, 58, rfl⟩
abbrev main_call2_v0 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_5 : Ref sig .tc := ⟨.hbm, 63, rfl⟩
abbrev main_call3_v0 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_6 : Ref sig .tc := ⟨.hbm, 68, rfl⟩
abbrev main_call4_v0 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_7 : Ref sig .tc := ⟨.hbm, 73, rfl⟩
abbrev main_call5_v0 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_8 : Ref sig .tc := ⟨.hbm, 78, rfl⟩
abbrev main_call6_v0 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst_9 : Ref sig .tc := ⟨.hbm, 83, rfl⟩
abbrev main_call7_v0 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_10 : Ref sig .tc := ⟨.hbm, 88, rfl⟩
abbrev main_call8_v0 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85_0 : Ref sig .tc := ⟨.hbm, 122, rfl⟩
abbrev main_v85_1 : Ref sig .tc := ⟨.hbm, 123, rfl⟩
abbrev main_v85_2 : Ref sig .tc := ⟨.hbm, 124, rfl⟩
abbrev main_v85_3 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_stg20_0 : Ref sig .tc := ⟨.vmem, 26, rfl⟩
abbrev cc0_stg21_0 : Ref sig .tc := ⟨.vmem, 27, rfl⟩
abbrev cc0_stg22_0 : Ref sig .tc := ⟨.vmem, 28, rfl⟩
abbrev cc0_stg23_0 : Ref sig .tc := ⟨.vmem, 29, rfl⟩
abbrev cc0_stg24_0 : Ref sig .tc := ⟨.vmem, 30, rfl⟩
abbrev cc0_stg25_0 : Ref sig .tc := ⟨.vmem, 31, rfl⟩
abbrev cc0_stg26_0 : Ref sig .tc := ⟨.vmem, 32, rfl⟩
abbrev cc0_stg26_1 : Ref sig .tc := ⟨.vmem, 33, rfl⟩
abbrev cc0_stg27_0 : Ref sig .tc := ⟨.vmem, 34, rfl⟩
abbrev cc0_stg27_1 : Ref sig .tc := ⟨.vmem, 35, rfl⟩
abbrev cc0_stg28_0 : Ref sig .tc := ⟨.vmem, 36, rfl⟩
abbrev cc0_stg28_1 : Ref sig .tc := ⟨.vmem, 37, rfl⟩
abbrev cc0_stg29_0 : Ref sig .tc := ⟨.vmem, 38, rfl⟩
abbrev cc0_stg29_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem19_0 : DmaSem sig := 25
abbrev cc0_sem20_0 : DmaSem sig := 26
abbrev cc0_sem21_0 : DmaSem sig := 27
abbrev cc0_sem22_0 : DmaSem sig := 28
abbrev cc0_sem23_0 : DmaSem sig := 29
abbrev cc0_sem24_0 : DmaSem sig := 30
abbrev cc0_sem25_0 : DmaSem sig := 31
abbrev cc0_sem26_0 : DmaSem sig := 32
abbrev cc0_sem26_1 : DmaSem sig := 33
abbrev cc0_sem27_0 : DmaSem sig := 34
abbrev cc0_sem27_1 : DmaSem sig := 35
abbrev cc0_sem28_0 : DmaSem sig := 36
abbrev cc0_sem28_1 : DmaSem sig := 37
abbrev cc0_sem29_0 : DmaSem sig := 38
abbrev cc0_sem29_1 : DmaSem sig := 39

abbrev nD : Nat := 1
abbrev τ : Topo := Topo.v7x

variable {F : FTy → Type} [FloatOps F]

abbrev grid0 : Pipeline.Grid := ⟨1, ![20], ![false]⟩

@[reducible] def k0_t1_loop : Scf.Loop 32 :=
  let c0_i32 : BitVec 32 := 0#32
  let c20_i32 : BitVec 32 := 20#32
  let v56 : BitVec 32 := Scalar.addi c0_i32 c20_i32
  let c1_i32 : BitVec 32 := 1#32
  ⟨c0_i32, v56, c1_i32⟩
def k0_mult1 (k0_t1 : Fin k0_t1_loop.trips) : BitVec 32 :=
  let c0_i32 : BitVec 32 := 0#32
  let c1_i32 : BitVec 32 := 1#32
  let arg31 : BitVec 32 := Scf.iv c0_i32 c1_i32 k0_t1
  let c128_i32 : BitVec 32 := 128#32
  let v345 : BitVec 32 := Scalar.muli arg31 c128_i32
  v345
def k0_off1 (k0_t1 : Fin k0_t1_loop.trips) : Fin 2 → Nat :=
  let c0_241 : Index := 0#32
  let c0_i32 : BitVec 32 := 0#32
  let c1_i32 : BitVec 32 := 1#32
  let arg31 : BitVec 32 := Scf.iv c0_i32 c1_i32 k0_t1
  let c128_i32 : BitVec 32 := 128#32
  let v345 : BitVec 32 := Scalar.muli arg31 c128_i32
  let v346 : BitVec 32 := v345
  let v347 : Index := Scalar.indexCast v346
  ![0, v347.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_27 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_28 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_29 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S7x1x1000 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x2560 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x2560 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x2560 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x2560 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x2560 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x2560 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x2560 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x256x1000 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S6x256x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S6x256x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S3x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S3x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S4x256x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S4x256x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S6x256x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S6x256x1 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S4x256 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S4x1 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 2 → Memref sig .tc .vmem S1x1x1000 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1x4x1000 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S1x4x1000 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S1x1x1000 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]
-- ==== ReferenceIdeal.lean ====
abbrev S1x4x20000 : Shape := ⟨3, ![1, 4, 20000]⟩
abbrev S1x1x20000 : Shape := ⟨3, ![1, 1, 20000]⟩
abbrev S1x256x20000 : Shape := ⟨3, ![1, 256, 20000]⟩
abbrev S6x256x256 : Shape := ⟨3, ![6, 256, 256]⟩
abbrev S6x256 : Shape := ⟨2, ![6, 256]⟩
abbrev S3x256 : Shape := ⟨2, ![3, 256]⟩
abbrev S3 : Shape := ⟨1, ![3]⟩
abbrev S4x256x256 : Shape := ⟨3, ![4, 256, 256]⟩
abbrev S4x256 : Shape := ⟨2, ![4, 256]⟩
abbrev S1x256 : Shape := ⟨2, ![1, 256]⟩
abbrev S1 : Shape := ⟨1, ![1]⟩
abbrev S4 : Shape := ⟨1, ![4]⟩
abbrev S1x20000x4 : Shape := ⟨3, ![1, 20000, 4]⟩
abbrev S1x20000x1 : Shape := ⟨3, ![1, 20000, 1]⟩
abbrev S1x20000 : Shape := ⟨2, ![1, 20000]⟩
abbrev S1x20000x2 : Shape := ⟨3, ![1, 20000, 2]⟩
abbrev S1x20000x1x2 : Shape := ⟨4, ![1, 20000, 1, 2]⟩
abbrev S1x1x20000x2 : Shape := ⟨4, ![1, 1, 20000, 2]⟩
abbrev S1x20000x20000x2 : Shape := ⟨4, ![1, 20000, 20000, 2]⟩
abbrev S_ : Shape := ⟨0, ![]⟩
abbrev S1x20000x20000x1 : Shape := ⟨4, ![1, 20000, 20000, 1]⟩
abbrev S1x20000x20000 : Shape := ⟨3, ![1, 20000, 20000]⟩
abbrev S20000 : Shape := ⟨1, ![20000]⟩
abbrev S1000 : Shape := ⟨1, ![1000]⟩
abbrev S1x1000 : Shape := ⟨2, ![1, 1000]⟩
abbrev S20x1000 : Shape := ⟨2, ![20, 1000]⟩
abbrev S1x3x20000 : Shape := ⟨3, ![1, 3, 20000]⟩
abbrev S1x256x256 : Shape := ⟨3, ![1, 256, 256]⟩
abbrev S256x256 : Shape := ⟨2, ![256, 256]⟩
abbrev S1x20000x256 : Shape := ⟨3, ![1, 20000, 256]⟩
abbrev S256 : Shape := ⟨1, ![256]⟩
abbrev S1x256x1 : Shape := ⟨3, ![1, 256, 1]⟩
abbrev S1x20000x3 : Shape := ⟨3, ![1, 20000, 3]⟩
abbrev S1x3x1 : Shape := ⟨3, ![1, 3, 1]⟩
abbrev S1x1x1 : Shape := ⟨3, ![1, 1, 1]⟩
abbrev S1x2x20000 : Shape := ⟨3, ![1, 2, 20000]⟩
abbrev S1x4x1 : Shape := ⟨3, ![1, 4, 1]⟩

abbrev nBuf : Space → Nat
  | .hbm => 474
  | .vmem => 0
  | .smem => 0
  | _ => 0

abbrev hbmTy0_0 (i : Nat) : BufTy := match i % 128 with
  | 0 => ⟨S1x4x20000, .f32⟩
  | 1 => ⟨S1x1x20000, .f32⟩
  | 2 => ⟨S1x256x20000, .f32⟩
  | 3 => ⟨S6x256x256, .f32⟩
  | 4 => ⟨S6x256, .f32⟩
  | 5 => ⟨S3x256, .f32⟩
  | 6 => ⟨S3, .f32⟩
  | 7 => ⟨S4x256x256, .f32⟩
  | 8 => ⟨S4x256, .f32⟩
  | 9 => ⟨S1x256, .f32⟩
  | 10 => ⟨S1, .f32⟩
  | 11 => ⟨S6x256x256, .f32⟩
  | 12 => ⟨S6x256, .f32⟩
  | 13 => ⟨S4x256, .f32⟩
  | 14 => ⟨S4, .f32⟩
  | 15 => ⟨S1x20000x4, .f32⟩
  | 16 => ⟨S1x20000x1, .f32⟩
  | 17 => ⟨S1x20000x1, .f32⟩
  | 18 => ⟨S1x20000, .f32⟩
  | 19 => ⟨S1x20000x1, .f32⟩
  | 20 => ⟨S1x20000, .f32⟩
  | 21 => ⟨S1x20000, .f32⟩
  | 22 => ⟨S1x20000x1, .f32⟩
  | 23 => ⟨S1x20000, .f32⟩
  | 24 => ⟨S1x20000x1, .f32⟩
  | 25 => ⟨S1x20000, .f32⟩
  | 26 => ⟨S1x20000, .f32⟩
  | 27 => ⟨S1x20000, .f32⟩
  | 28 => ⟨S1x20000x1, .f32⟩
  | 29 => ⟨S1x20000, .f32⟩
  | 30 => ⟨S1x20000x1, .f32⟩
  | 31 => ⟨S1x20000, .f32⟩
  | 32 => ⟨S1x20000, .f32⟩
  | 33 => ⟨S1x20000x1, .f32⟩
  | 34 => ⟨S1x20000, .f32⟩
  | 35 => ⟨S1x20000x1, .f32⟩
  | 36 => ⟨S1x20000, .f32⟩
  | 37 => ⟨S1x20000, .f32⟩
  | 38 => ⟨S1x20000, .f32⟩
  | 39 => ⟨S1x20000x2, .f32⟩
  | 40 => ⟨S1x20000x1x2, .f32⟩
  | 41 => ⟨S1x20000x2, .f32⟩
  | 42 => ⟨S1x1x20000x2, .f32⟩
  | 43 => ⟨S1x20000x20000x2, .f32⟩
  | 44 => ⟨S1x20000x20000x2, .f32⟩
  | 45 => ⟨S1x20000x20000x2, .f32⟩
  | 46 => ⟨S1x20000x2, .f32⟩
  | 47 => ⟨S1x20000x1x2, .f32⟩
  | 48 => ⟨S1x20000x2, .f32⟩
  | 49 => ⟨S1x1x20000x2, .f32⟩
  | 50 => ⟨S1x20000x20000x2, .f32⟩
  | 51 => ⟨S1x20000x20000x2, .f32⟩
  | 52 => ⟨S1x20000x20000x2, .f32⟩
  | 53 => ⟨S1x20000x20000x2, .f32⟩
  | 54 => ⟨S_, .f32⟩
  | 55 => ⟨S_, .f32⟩
  | 56 => ⟨S1x20000x20000x2, .f32⟩
  | 57 => ⟨S1x20000x20000x2, .f32⟩
  | 58 => ⟨S1x20000x20000x1, .f32⟩
  | 59 => ⟨S1x20000x20000, .f32⟩
  | 60 => ⟨S1x20000x20000x1, .f32⟩
  | 61 => ⟨S1x20000x20000, .f32⟩
  | 62 => ⟨S1x20000x20000, .f32⟩
  | 63 => ⟨S1x20000x1, .f32⟩
  | 64 => ⟨S1x1x20000, .f32⟩
  | 65 => ⟨S1x20000x20000, .f32⟩
  | 66 => ⟨S1x20000x20000, .f32⟩
  | 67 => ⟨S1x20000x20000, .f32⟩
  | 68 => ⟨S1x20000x20000, .f32⟩
  | 69 => ⟨S1x20000x20000, .f32⟩
  | 70 => ⟨S_, .f32⟩
  | 71 => ⟨S1x20000x20000, .f32⟩
  | 72 => ⟨S1x20000x20000, .i1⟩
  | 73 => ⟨S1x20000x20000, .f32⟩
  | 74 => ⟨S1x20000x20000, .f32⟩
  | 75 => ⟨S1x20000x20000, .f32⟩
  | 76 => ⟨S20000, .i32⟩
  | 77 => ⟨S1x20000x1, .i32⟩
  | 78 => ⟨S_, .f32⟩
  | 79 => ⟨S1x20000, .f32⟩
  | 80 => ⟨S1x1x20000, .f32⟩
  | 81 => ⟨S1x20000x20000, .f32⟩
  | 82 => ⟨S1x20000x20000, .i1⟩
  | 83 => ⟨S_, .i32⟩
  | 84 => ⟨S_, .i32⟩
  | 85 => ⟨S1x20000x20000, .i32⟩
  | 86 => ⟨S1x20000x20000, .i32⟩
  | 87 => ⟨S1x20000x20000, .i32⟩
  | 88 => ⟨S_, .i32⟩
  | 89 => ⟨S1x20000, .i32⟩
  | 90 => ⟨S1000, .i32⟩
  | 91 => ⟨S1x1000, .i32⟩
  | 92 => ⟨S20x1000, .i32⟩
  | 93 => ⟨S20000, .i32⟩
  | 94 => ⟨S1x20000, .i32⟩
  | 95 => ⟨S1x20000, .i1⟩
  | 96 => ⟨S1x20000, .f32⟩
  | 97 => ⟨S1x1x20000, .f32⟩
  | 98 => ⟨S_, .f32⟩
  | 99 => ⟨S1x20000x20000, .f32⟩
  | 100 => ⟨S1x20000x20000, .i1⟩
  | 101 => ⟨S1x20000x20000, .f32⟩
  | 102 => ⟨S1x20000x20000, .f32⟩
  | 103 => ⟨S1x20000x20000, .f32⟩
  | 104 => ⟨S20000, .i32⟩
  | 105 => ⟨S1x20000x1, .i32⟩
  | 106 => ⟨S_, .f32⟩
  | 107 => ⟨S1x20000, .f32⟩
  | 108 => ⟨S1x1x20000, .f32⟩
  | 109 => ⟨S1x20000x20000, .f32⟩
  | 110 => ⟨S1x20000x20000, .i1⟩
  | 111 => ⟨S_, .i32⟩
  | 112 => ⟨S_, .i32⟩
  | 113 => ⟨S1x20000x20000, .i32⟩
  | 114 => ⟨S1x20000x20000, .i32⟩
  | 115 => ⟨S1x20000x20000, .i32⟩
  | 116 => ⟨S_, .i32⟩
  | 117 => ⟨S1x20000, .i32⟩
  | 118 => ⟨S1000, .i32⟩
  | 119 => ⟨S1x1000, .i32⟩
  | 120 => ⟨S20x1000, .i32⟩
  | 121 => ⟨S20000, .i32⟩
  | 122 => ⟨S1x20000, .i32⟩
  | 123 => ⟨S1x20000, .i1⟩
  | 124 => ⟨S1x20000, .f32⟩
  | 125 => ⟨S1x1x20000, .f32⟩
  | 126 => ⟨S_, .f32⟩
  | 127 => ⟨S1x20000x20000, .f32⟩
  | _ => ⟨S1x4x20000, .f32⟩

abbrev hbmTy0_1 (i : Nat) : BufTy := match i % 128 with
  | 0 => ⟨S1x20000x20000, .i1⟩
  | 1 => ⟨S1x20000x20000, .f32⟩
  | 2 => ⟨S1x20000x20000, .f32⟩
  | 3 => ⟨S1x20000x20000, .f32⟩
  | 4 => ⟨S20000, .i32⟩
  | 5 => ⟨S1x20000x1, .i32⟩
  | 6 => ⟨S_, .f32⟩
  | 7 => ⟨S1x20000, .f32⟩
  | 8 => ⟨S1x1x20000, .f32⟩
  | 9 => ⟨S1x20000x20000, .f32⟩
  | 10 => ⟨S1x20000x20000, .i1⟩
  | 11 => ⟨S_, .i32⟩
  | 12 => ⟨S_, .i32⟩
  | 13 => ⟨S1x20000x20000, .i32⟩
  | 14 => ⟨S1x20000x20000, .i32⟩
  | 15 => ⟨S1x20000x20000, .i32⟩
  | 16 => ⟨S_, .i32⟩
  | 17 => ⟨S1x20000, .i32⟩
  | 18 => ⟨S1000, .i32⟩
  | 19 => ⟨S1x1000, .i32⟩
  | 20 => ⟨S20x1000, .i32⟩
  | 21 => ⟨S20000, .i32⟩
  | 22 => ⟨S1x20000, .i32⟩
  | 23 => ⟨S1x20000, .i1⟩
  | 24 => ⟨S1x20000, .f32⟩
  | 25 => ⟨S1x1x20000, .f32⟩
  | 26 => ⟨S1x3x20000, .f32⟩
  | 27 => ⟨S1x256x256, .f32⟩
  | 28 => ⟨S256x256, .f32⟩
  | 29 => ⟨S1x20000x256, .f32⟩
  | 30 => ⟨S1x256x20000, .f32⟩
  | 31 => ⟨S1x256, .f32⟩
  | 32 => ⟨S256, .f32⟩
  | 33 => ⟨S1x256x1, .f32⟩
  | 34 => ⟨S1x256x20000, .f32⟩
  | 35 => ⟨S1x256x20000, .f32⟩
  | 36 => ⟨S_, .f32⟩
  | 37 => ⟨S1x256x20000, .f32⟩
  | 38 => ⟨S1x256x20000, .i1⟩
  | 39 => ⟨S_, .f32⟩
  | 40 => ⟨S1x256x20000, .f32⟩
  | 41 => ⟨S1x256x20000, .f32⟩
  | 42 => ⟨S1x256x20000, .f32⟩
  | 43 => ⟨S1x256x256, .f32⟩
  | 44 => ⟨S256x256, .f32⟩
  | 45 => ⟨S1x20000x256, .f32⟩
  | 46 => ⟨S1x256x20000, .f32⟩
  | 47 => ⟨S1x256, .f32⟩
  | 48 => ⟨S256, .f32⟩
  | 49 => ⟨S1x256x1, .f32⟩
  | 50 => ⟨S1x256x20000, .f32⟩
  | 51 => ⟨S1x256x20000, .f32⟩
  | 52 => ⟨S_, .f32⟩
  | 53 => ⟨S1x256x20000, .f32⟩
  | 54 => ⟨S1x256x20000, .i1⟩
  | 55 => ⟨S_, .f32⟩
  | 56 => ⟨S1x256x20000, .f32⟩
  | 57 => ⟨S1x256x20000, .f32⟩
  | 58 => ⟨S1x256x20000, .f32⟩
  | 59 => ⟨S1x256x256, .f32⟩
  | 60 => ⟨S256x256, .f32⟩
  | 61 => ⟨S1x20000x256, .f32⟩
  | 62 => ⟨S1x256x20000, .f32⟩
  | 63 => ⟨S1x256, .f32⟩
  | 64 => ⟨S256, .f32⟩
  | 65 => ⟨S1x256x1, .f32⟩
  | 66 => ⟨S1x256x20000, .f32⟩
  | 67 => ⟨S1x256x20000, .f32⟩
  | 68 => ⟨S_, .f32⟩
  | 69 => ⟨S1x256x20000, .f32⟩
  | 70 => ⟨S1x256x20000, .i1⟩
  | 71 => ⟨S_, .f32⟩
  | 72 => ⟨S1x256x20000, .f32⟩
  | 73 => ⟨S1x256x20000, .f32⟩
  | 74 => ⟨S1x256x20000, .f32⟩
  | 75 => ⟨S1x256x256, .f32⟩
  | 76 => ⟨S256x256, .f32⟩
  | 77 => ⟨S1x20000x256, .f32⟩
  | 78 => ⟨S1x256x20000, .f32⟩
  | 79 => ⟨S1x256, .f32⟩
  | 80 => ⟨S256, .f32⟩
  | 81 => ⟨S1x256x1, .f32⟩
  | 82 => ⟨S1x256x20000, .f32⟩
  | 83 => ⟨S1x256x20000, .f32⟩
  | 84 => ⟨S_, .f32⟩
  | 85 => ⟨S1x256x20000, .f32⟩
  | 86 => ⟨S1x256x20000, .i1⟩
  | 87 => ⟨S_, .f32⟩
  | 88 => ⟨S1x256x20000, .f32⟩
  | 89 => ⟨S1x256x20000, .f32⟩
  | 90 => ⟨S1x256x20000, .f32⟩
  | 91 => ⟨S1x256x256, .f32⟩
  | 92 => ⟨S256x256, .f32⟩
  | 93 => ⟨S1x20000x256, .f32⟩
  | 94 => ⟨S1x256x20000, .f32⟩
  | 95 => ⟨S1x256, .f32⟩
  | 96 => ⟨S256, .f32⟩
  | 97 => ⟨S1x256x1, .f32⟩
  | 98 => ⟨S1x256x20000, .f32⟩
  | 99 => ⟨S1x256x20000, .f32⟩
  | 100 => ⟨S_, .f32⟩
  | 101 => ⟨S1x256x20000, .f32⟩
  | 102 => ⟨S1x256x20000, .i1⟩
  | 103 => ⟨S_, .f32⟩
  | 104 => ⟨S1x256x20000, .f32⟩
  | 105 => ⟨S1x256x20000, .f32⟩
  | 106 => ⟨S1x256x20000, .f32⟩
  | 107 => ⟨S1x256x256, .f32⟩
  | 108 => ⟨S256x256, .f32⟩
  | 109 => ⟨S1x20000x256, .f32⟩
  | 110 => ⟨S1x256x20000, .f32⟩
  | 111 => ⟨S1x256, .f32⟩
  | 112 => ⟨S256, .f32⟩
  | 113 => ⟨S1x256x1, .f32⟩
  | 114 => ⟨S1x256x20000, .f32⟩
  | 115 => ⟨S1x256x20000, .f32⟩
  | 116 => ⟨S_, .f32⟩
  | 117 => ⟨S1x256x20000, .f32⟩
  | 118 => ⟨S1x256x20000, .i1⟩
  | 119 => ⟨S_, .f32⟩
  | 120 => ⟨S1x256x20000, .f32⟩
  | 121 => ⟨S1x256x20000, .f32⟩
  | 122 => ⟨S1x256x20000, .f32⟩
  | 123 => ⟨S1x20000x3, .f32⟩
  | 124 => ⟨S1x3x20000, .f32⟩
  | 125 => ⟨S1x3x1, .f32⟩
  | 126 => ⟨S1x3x20000, .f32⟩
  | 127 => ⟨S1x3x20000, .f32⟩
  | _ => ⟨S1x4x20000, .f32⟩

abbrev hbmTy0_2 (i : Nat) : BufTy := match i % 128 with
  | 0 => ⟨S_, .f32⟩
  | 1 => ⟨S1x20000, .f32⟩
  | 2 => ⟨S_, .f32⟩
  | 3 => ⟨S1x20000, .f32⟩
  | 4 => ⟨S1x20000, .f32⟩
  | 5 => ⟨S1x1x20000, .f32⟩
  | 6 => ⟨S1x3x20000, .f32⟩
  | 7 => ⟨S1x3x20000, .f32⟩
  | 8 => ⟨S1x3x20000, .f32⟩
  | 9 => ⟨S_, .f32⟩
  | 10 => ⟨S1x20000, .f32⟩
  | 11 => ⟨S1x1x20000, .f32⟩
  | 12 => ⟨S1x3x20000, .f32⟩
  | 13 => ⟨S1x3x20000, .f32⟩
  | 14 => ⟨S1x3x20000, .f32⟩
  | 15 => ⟨S_, .f32⟩
  | 16 => ⟨S1x20000, .f32⟩
  | 17 => ⟨S1x1x20000, .f32⟩
  | 18 => ⟨S1x256x256, .f32⟩
  | 19 => ⟨S256x256, .f32⟩
  | 20 => ⟨S1x20000x256, .f32⟩
  | 21 => ⟨S1x256x20000, .f32⟩
  | 22 => ⟨S1x256, .f32⟩
  | 23 => ⟨S256, .f32⟩
  | 24 => ⟨S1x256x1, .f32⟩
  | 25 => ⟨S1x256x20000, .f32⟩
  | 26 => ⟨S1x256x20000, .f32⟩
  | 27 => ⟨S_, .f32⟩
  | 28 => ⟨S1x256x20000, .f32⟩
  | 29 => ⟨S1x256x20000, .i1⟩
  | 30 => ⟨S_, .f32⟩
  | 31 => ⟨S1x256x20000, .f32⟩
  | 32 => ⟨S1x256x20000, .f32⟩
  | 33 => ⟨S1x256x20000, .f32⟩
  | 34 => ⟨S1x256x256, .f32⟩
  | 35 => ⟨S256x256, .f32⟩
  | 36 => ⟨S1x20000x256, .f32⟩
  | 37 => ⟨S1x256x20000, .f32⟩
  | 38 => ⟨S1x256, .f32⟩
  | 39 => ⟨S256, .f32⟩
  | 40 => ⟨S1x256x1, .f32⟩
  | 41 => ⟨S1x256x20000, .f32⟩
  | 42 => ⟨S1x256x20000, .f32⟩
  | 43 => ⟨S_, .f32⟩
  | 44 => ⟨S1x256x20000, .f32⟩
  | 45 => ⟨S1x256x20000, .i1⟩
  | 46 => ⟨S_, .f32⟩
  | 47 => ⟨S1x256x20000, .f32⟩
  | 48 => ⟨S1x256x20000, .f32⟩
  | 49 => ⟨S1x256x20000, .f32⟩
  | 50 => ⟨S1x256x256, .f32⟩
  | 51 => ⟨S256x256, .f32⟩
  | 52 => ⟨S1x20000x256, .f32⟩
  | 53 => ⟨S1x256x20000, .f32⟩
  | 54 => ⟨S1x256, .f32⟩
  | 55 => ⟨S256, .f32⟩
  | 56 => ⟨S1x256x1, .f32⟩
  | 57 => ⟨S1x256x20000, .f32⟩
  | 58 => ⟨S1x256x20000, .f32⟩
  | 59 => ⟨S_, .f32⟩
  | 60 => ⟨S1x256x20000, .f32⟩
  | 61 => ⟨S1x256x20000, .i1⟩
  | 62 => ⟨S_, .f32⟩
  | 63 => ⟨S1x256x20000, .f32⟩
  | 64 => ⟨S1x256x20000, .f32⟩
  | 65 => ⟨S1x256x20000, .f32⟩
  | 66 => ⟨S1x256x256, .f32⟩
  | 67 => ⟨S256x256, .f32⟩
  | 68 => ⟨S1x20000x256, .f32⟩
  | 69 => ⟨S1x256x20000, .f32⟩
  | 70 => ⟨S1x256, .f32⟩
  | 71 => ⟨S256, .f32⟩
  | 72 => ⟨S1x256x1, .f32⟩
  | 73 => ⟨S1x256x20000, .f32⟩
  | 74 => ⟨S1x256x20000, .f32⟩
  | 75 => ⟨S_, .f32⟩
  | 76 => ⟨S1x256x20000, .f32⟩
  | 77 => ⟨S1x256x20000, .i1⟩
  | 78 => ⟨S_, .f32⟩
  | 79 => ⟨S1x256x20000, .f32⟩
  | 80 => ⟨S1x256x20000, .f32⟩
  | 81 => ⟨S1x256x20000, .f32⟩
  | 82 => ⟨S1x20000x1, .f32⟩
  | 83 => ⟨S1x1x20000, .f32⟩
  | 84 => ⟨S1x1x1, .f32⟩
  | 85 => ⟨S1x1x20000, .f32⟩
  | 86 => ⟨S1x1x20000, .f32⟩
  | 87 => ⟨S1x1x20000, .f32⟩
  | 88 => ⟨S_, .f32⟩
  | 89 => ⟨S1x4x20000, .f32⟩
  | 90 => ⟨S1x4x20000, .f32⟩
  | 91 => ⟨S1x2x20000, .f32⟩
  | 92 => ⟨S1x2x20000, .f32⟩
  | 93 => ⟨S1x2x20000, .f32⟩
  | 94 => ⟨S1x4x20000, .f32⟩
  | 95 => ⟨S_, .f32⟩
  | 96 => ⟨S_, .f32⟩
  | 97 => ⟨S1x4x20000, .f32⟩
  | 98 => ⟨S1x4x20000, .f32⟩
  | 99 => ⟨S_, .f32⟩
  | 100 => ⟨S1x4x20000, .f32⟩
  | 101 => ⟨S1x4x20000, .f32⟩
  | 102 => ⟨S1x256x256, .f32⟩
  | 103 => ⟨S256x256, .f32⟩
  | 104 => ⟨S1x20000x256, .f32⟩
  | 105 => ⟨S1x256x20000, .f32⟩
  | 106 => ⟨S1x256, .f32⟩
  | 107 => ⟨S256, .f32⟩
  | 108 => ⟨S1x256x1, .f32⟩
  | 109 => ⟨S1x256x20000, .f32⟩
  | 110 => ⟨S1x256x20000, .f32⟩
  | 111 => ⟨S_, .f32⟩
  | 112 => ⟨S1x256x20000, .f32⟩
  | 113 => ⟨S1x256x20000, .i1⟩
  | 114 => ⟨S_, .f32⟩
  | 115 => ⟨S1x256x20000, .f32⟩
  | 116 => ⟨S1x256x20000, .f32⟩
  | 117 => ⟨S1x256x20000, .f32⟩
  | 118 => ⟨S1x256x256, .f32⟩
  | 119 => ⟨S256x256, .f32⟩
  | 120 => ⟨S1x20000x256, .f32⟩
  | 121 => ⟨S1x256x20000, .f32⟩
  | 122 => ⟨S1x256, .f32⟩
  | 123 => ⟨S256, .f32⟩
  | 124 => ⟨S1x256x1, .f32⟩
  | 125 => ⟨S1x256x20000, .f32⟩
  | 126 => ⟨S1x256x20000, .f32⟩
  | 127 => ⟨S_, .f32⟩
  | _ => ⟨S1x4x20000, .f32⟩

abbrev hbmTy0_3 (i : Nat) : BufTy := match i % 128 with
  | 0 => ⟨S1x256x20000, .f32⟩
  | 1 => ⟨S1x256x20000, .i1⟩
  | 2 => ⟨S_, .f32⟩
  | 3 => ⟨S1x256x20000, .f32⟩
  | 4 => ⟨S1x256x20000, .f32⟩
  | 5 => ⟨S1x256x20000, .f32⟩
  | 6 => ⟨S1x256x256, .f32⟩
  | 7 => ⟨S256x256, .f32⟩
  | 8 => ⟨S1x20000x256, .f32⟩
  | 9 => ⟨S1x256x20000, .f32⟩
  | 10 => ⟨S1x256, .f32⟩
  | 11 => ⟨S256, .f32⟩
  | 12 => ⟨S1x256x1, .f32⟩
  | 13 => ⟨S1x256x20000, .f32⟩
  | 14 => ⟨S1x256x20000, .f32⟩
  | 15 => ⟨S_, .f32⟩
  | 16 => ⟨S1x256x20000, .f32⟩
  | 17 => ⟨S1x256x20000, .i1⟩
  | 18 => ⟨S_, .f32⟩
  | 19 => ⟨S1x256x20000, .f32⟩
  | 20 => ⟨S1x256x20000, .f32⟩
  | 21 => ⟨S1x256x20000, .f32⟩
  | 22 => ⟨S1x256x256, .f32⟩
  | 23 => ⟨S256x256, .f32⟩
  | 24 => ⟨S1x20000x256, .f32⟩
  | 25 => ⟨S1x256x20000, .f32⟩
  | 26 => ⟨S1x256, .f32⟩
  | 27 => ⟨S256, .f32⟩
  | 28 => ⟨S1x256x1, .f32⟩
  | 29 => ⟨S1x256x20000, .f32⟩
  | 30 => ⟨S1x256x20000, .f32⟩
  | 31 => ⟨S_, .f32⟩
  | 32 => ⟨S1x256x20000, .f32⟩
  | 33 => ⟨S1x256x20000, .i1⟩
  | 34 => ⟨S_, .f32⟩
  | 35 => ⟨S1x256x20000, .f32⟩
  | 36 => ⟨S1x256x20000, .f32⟩
  | 37 => ⟨S1x256x20000, .f32⟩
  | 38 => ⟨S1x256x256, .f32⟩
  | 39 => ⟨S256x256, .f32⟩
  | 40 => ⟨S1x20000x256, .f32⟩
  | 41 => ⟨S1x256x20000, .f32⟩
  | 42 => ⟨S1x256, .f32⟩
  | 43 => ⟨S256, .f32⟩
  | 44 => ⟨S1x256x1, .f32⟩
  | 45 => ⟨S1x256x20000, .f32⟩
  | 46 => ⟨S1x256x20000, .f32⟩
  | 47 => ⟨S_, .f32⟩
  | 48 => ⟨S1x256x20000, .f32⟩
  | 49 => ⟨S1x256x20000, .i1⟩
  | 50 => ⟨S_, .f32⟩
  | 51 => ⟨S1x256x20000, .f32⟩
  | 52 => ⟨S1x256x20000, .f32⟩
  | 53 => ⟨S1x256x20000, .f32⟩
  | 54 => ⟨S1x256x256, .f32⟩
  | 55 => ⟨S256x256, .f32⟩
  | 56 => ⟨S1x20000x256, .f32⟩
  | 57 => ⟨S1x256x20000, .f32⟩
  | 58 => ⟨S1x256, .f32⟩
  | 59 => ⟨S256, .f32⟩
  | 60 => ⟨S1x256x1, .f32⟩
  | 61 => ⟨S1x256x20000, .f32⟩
  | 62 => ⟨S1x256x20000, .f32⟩
  | 63 => ⟨S_, .f32⟩
  | 64 => ⟨S1x256x20000, .f32⟩
  | 65 => ⟨S1x256x20000, .i1⟩
  | 66 => ⟨S_, .f32⟩
  | 67 => ⟨S1x256x20000, .f32⟩
  | 68 => ⟨S1x256x20000, .f32⟩
  | 69 => ⟨S1x256x20000, .f32⟩
  | 70 => ⟨S1x20000x4, .f32⟩
  | 71 => ⟨S1x4x20000, .f32⟩
  | 72 => ⟨S1x4x1, .f32⟩
  | 73 => ⟨S1x4x20000, .f32⟩
  | 74 => ⟨S1x4x20000, .f32⟩
  | 75 => ⟨S_, .f32⟩
  | 76 => ⟨S1x4x20000, .f32⟩
  | 77 => ⟨S1x4x20000, .f32⟩
  | 78 => ⟨S1x4x20000, .f32⟩
  | 79 => ⟨S1x4x20000, .f32⟩
  | 80 => ⟨S1x4x20000, .i1⟩
  | 81 => ⟨S1x4x20000, .f32⟩
  | 82 => ⟨S1x4x20000, .f32⟩
  | 83 => ⟨S1x4x20000, .f32⟩
  | 84 => ⟨S1x4x20000, .f32⟩
  | 85 => ⟨S1x4x20000, .f32⟩
  | 86 => ⟨S1x4x20000, .f32⟩
  | 87 => ⟨S1x4x20000, .f32⟩
  | 88 => ⟨S1x4x20000, .f32⟩
  | 89 => ⟨S1x4x20000, .f32⟩
  | _ => ⟨S1x4x20000, .f32⟩

abbrev hbmTy (i : Nat) : BufTy := match i / 128 with
  | 0 => hbmTy0_0 i
  | 1 => hbmTy0_1 i
  | 2 => hbmTy0_2 i
  | 3 => hbmTy0_3 i
  | _ => ⟨S1x4x20000, .f32⟩

abbrev bufTy : (tb : Table) → Fin (tcTables nBuf tb) → BufTy
  | .hbm, ⟨i, _⟩ => hbmTy i
  | _, _ => ⟨S1x4x20000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst : Ref sig .tc := ⟨.hbm, 54, rfl⟩
abbrev main_call0_v0 : Ref sig .tc := ⟨.hbm, 55, rfl⟩
abbrev main_call0_v1 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_0 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_1 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_c : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_v63 : Ref sig .tc := ⟨.hbm, 87, rfl⟩
abbrev main_c_2 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_3 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_4 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_c_5 : Ref sig .tc := ⟨.hbm, 111, rfl⟩
abbrev main_call2_v0 : Ref sig .tc := ⟨.hbm, 112, rfl⟩
abbrev main_call2_v1 : Ref sig .tc := ⟨.hbm, 113, rfl⟩
abbrev main_call2_v2 : Ref sig .tc := ⟨.hbm, 114, rfl⟩
abbrev main_v84 : Ref sig .tc := ⟨.hbm, 115, rfl⟩
abbrev main_c_6 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_cst_7 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_cst_8 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_c_9 : Ref sig .tc := ⟨.hbm, 139, rfl⟩
abbrev main_call3_v0 : Ref sig .tc := ⟨.hbm, 140, rfl⟩
abbrev main_call3_v1 : Ref sig .tc := ⟨.hbm, 141, rfl⟩
abbrev main_call3_v2 : Ref sig .tc := ⟨.hbm, 142, rfl⟩
abbrev main_v105 : Ref sig .tc := ⟨.hbm, 143, rfl⟩
abbrev main_c_10 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_cst_11 : Ref sig .tc := ⟨.hbm, 164, rfl⟩
abbrev main_v125 : Ref sig .tc := ⟨.hbm, 165, rfl⟩
abbrev main_v126 : Ref sig .tc := ⟨.hbm, 166, rfl⟩
abbrev main_cst_12 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_cst_13 : Ref sig .tc := ⟨.hbm, 180, rfl⟩
abbrev main_v139 : Ref sig .tc := ⟨.hbm, 181, rfl⟩
abbrev main_v140 : Ref sig .tc := ⟨.hbm, 182, rfl⟩
abbrev main_cst_14 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_cst_15 : Ref sig .tc := ⟨.hbm, 196, rfl⟩
abbrev main_v153 : Ref sig .tc := ⟨.hbm, 197, rfl⟩
abbrev main_v154 : Ref sig .tc := ⟨.hbm, 198, rfl⟩
abbrev main_cst_16 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_cst_17 : Ref sig .tc := ⟨.hbm, 212, rfl⟩
abbrev main_v167 : Ref sig .tc := ⟨.hbm, 213, rfl⟩
abbrev main_v168 : Ref sig .tc := ⟨.hbm, 214, rfl⟩
abbrev main_cst_18 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_cst_19 : Ref sig .tc := ⟨.hbm, 228, rfl⟩
abbrev main_v181 : Ref sig .tc := ⟨.hbm, 229, rfl⟩
abbrev main_v182 : Ref sig .tc := ⟨.hbm, 230, rfl⟩
abbrev main_cst_20 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩
abbrev main_v190 : Ref sig .tc := ⟨.hbm, 239, rfl⟩
abbrev main_v191 : Ref sig .tc := ⟨.hbm, 240, rfl⟩
abbrev main_v192 : Ref sig .tc := ⟨.hbm, 241, rfl⟩
abbrev main_v193 : Ref sig .tc := ⟨.hbm, 242, rfl⟩
abbrev main_v194 : Ref sig .tc := ⟨.hbm, 243, rfl⟩
abbrev main_cst_21 : Ref sig .tc := ⟨.hbm, 244, rfl⟩
abbrev main_v195 : Ref sig .tc := ⟨.hbm, 245, rfl⟩
abbrev main_v196 : Ref sig .tc := ⟨.hbm, 246, rfl⟩
abbrev main_cst_22 : Ref sig .tc := ⟨.hbm, 247, rfl⟩
abbrev main_v197 : Ref sig .tc := ⟨.hbm, 248, rfl⟩
abbrev main_v198 : Ref sig .tc := ⟨.hbm, 249, rfl⟩
abbrev main_v199 : Ref sig .tc := ⟨.hbm, 250, rfl⟩
abbrev main_v200 : Ref sig .tc := ⟨.hbm, 251, rfl⟩
abbrev main_v201 : Ref sig .tc := ⟨.hbm, 252, rfl⟩
abbrev main_v202 : Ref sig .tc := ⟨.hbm, 253, rfl⟩
abbrev main_v203 : Ref sig .tc := ⟨.hbm, 254, rfl⟩
abbrev main_v204 : Ref sig .tc := ⟨.hbm, 255, rfl⟩
abbrev main_cst_23 : Ref sig .tc := ⟨.hbm, 256, rfl⟩
abbrev main_v205 : Ref sig .tc := ⟨.hbm, 257, rfl⟩
abbrev main_cst_24 : Ref sig .tc := ⟨.hbm, 258, rfl⟩
abbrev main_v206 : Ref sig .tc := ⟨.hbm, 259, rfl⟩
abbrev main_v207 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_v211 : Ref sig .tc := ⟨.hbm, 264, rfl⟩
abbrev main_cst_25 : Ref sig .tc := ⟨.hbm, 265, rfl⟩
abbrev main_v212 : Ref sig .tc := ⟨.hbm, 266, rfl⟩
abbrev main_v213 : Ref sig .tc := ⟨.hbm, 267, rfl⟩
abbrev main_v214 : Ref sig .tc := ⟨.hbm, 268, rfl⟩
abbrev main_v215 : Ref sig .tc := ⟨.hbm, 269, rfl⟩
abbrev main_v216 : Ref sig .tc := ⟨.hbm, 270, rfl⟩
abbrev main_cst_26 : Ref sig .tc := ⟨.hbm, 271, rfl⟩
abbrev main_v217 : Ref sig .tc := ⟨.hbm, 272, rfl⟩
abbrev main_v218 : Ref sig .tc := ⟨.hbm, 273, rfl⟩
abbrev main_v219 : Ref sig .tc := ⟨.hbm, 274, rfl⟩
abbrev main_v220 : Ref sig .tc := ⟨.hbm, 275, rfl⟩
abbrev main_v221 : Ref sig .tc := ⟨.hbm, 276, rfl⟩
abbrev main_v222 : Ref sig .tc := ⟨.hbm, 277, rfl⟩
abbrev main_v223 : Ref sig .tc := ⟨.hbm, 278, rfl⟩
abbrev main_v224 : Ref sig .tc := ⟨.hbm, 279, rfl⟩
abbrev main_v225 : Ref sig .tc := ⟨.hbm, 280, rfl⟩
abbrev main_v226 : Ref sig .tc := ⟨.hbm, 281, rfl⟩
abbrev main_v227 : Ref sig .tc := ⟨.hbm, 282, rfl⟩
abbrev main_cst_27 : Ref sig .tc := ⟨.hbm, 283, rfl⟩
abbrev main_v228 : Ref sig .tc := ⟨.hbm, 284, rfl⟩
abbrev main_v229 : Ref sig .tc := ⟨.hbm, 285, rfl⟩
abbrev main_cst_28 : Ref sig .tc := ⟨.hbm, 286, rfl⟩
abbrev main_v230 : Ref sig .tc := ⟨.hbm, 287, rfl⟩
abbrev main_v231 : Ref sig .tc := ⟨.hbm, 288, rfl⟩
abbrev main_v232 : Ref sig .tc := ⟨.hbm, 289, rfl⟩
abbrev main_v233 : Ref sig .tc := ⟨.hbm, 290, rfl⟩
abbrev main_v234 : Ref sig .tc := ⟨.hbm, 291, rfl⟩
abbrev main_v235 : Ref sig .tc := ⟨.hbm, 292, rfl⟩
abbrev main_v236 : Ref sig .tc := ⟨.hbm, 293, rfl⟩
abbrev main_v237 : Ref sig .tc := ⟨.hbm, 294, rfl⟩
abbrev main_v238 : Ref sig .tc := ⟨.hbm, 295, rfl⟩
abbrev main_v239 : Ref sig .tc := ⟨.hbm, 296, rfl⟩
abbrev main_v240 : Ref sig .tc := ⟨.hbm, 297, rfl⟩
abbrev main_v241 : Ref sig .tc := ⟨.hbm, 298, rfl⟩
abbrev main_cst_29 : Ref sig .tc := ⟨.hbm, 299, rfl⟩
abbrev main_v242 : Ref sig .tc := ⟨.hbm, 300, rfl⟩
abbrev main_v243 : Ref sig .tc := ⟨.hbm, 301, rfl⟩
abbrev main_cst_30 : Ref sig .tc := ⟨.hbm, 302, rfl⟩
abbrev main_v244 : Ref sig .tc := ⟨.hbm, 303, rfl⟩
abbrev main_v245 : Ref sig .tc := ⟨.hbm, 304, rfl⟩
abbrev main_v246 : Ref sig .tc := ⟨.hbm, 305, rfl⟩
abbrev main_v247 : Ref sig .tc := ⟨.hbm, 306, rfl⟩
abbrev main_v248 : Ref sig .tc := ⟨.hbm, 307, rfl⟩
abbrev main_v249 : Ref sig .tc := ⟨.hbm, 308, rfl⟩
abbrev main_v250 : Ref sig .tc := ⟨.hbm, 309, rfl⟩
abbrev main_v251 : Ref sig .tc := ⟨.hbm, 310, rfl⟩
abbrev main_v252 : Ref sig .tc := ⟨.hbm, 311, rfl⟩
abbrev main_v253 : Ref sig .tc := ⟨.hbm, 312, rfl⟩
abbrev main_v254 : Ref sig .tc := ⟨.hbm, 313, rfl⟩
abbrev main_v255 : Ref sig .tc := ⟨.hbm, 314, rfl⟩
abbrev main_cst_31 : Ref sig .tc := ⟨.hbm, 315, rfl⟩
abbrev main_v256 : Ref sig .tc := ⟨.hbm, 316, rfl⟩
abbrev main_v257 : Ref sig .tc := ⟨.hbm, 317, rfl⟩
abbrev main_cst_32 : Ref sig .tc := ⟨.hbm, 318, rfl⟩
abbrev main_v258 : Ref sig .tc := ⟨.hbm, 319, rfl⟩
abbrev main_v259 : Ref sig .tc := ⟨.hbm, 320, rfl⟩
abbrev main_v260 : Ref sig .tc := ⟨.hbm, 321, rfl⟩
abbrev main_v261 : Ref sig .tc := ⟨.hbm, 322, rfl⟩
abbrev main_v262 : Ref sig .tc := ⟨.hbm, 323, rfl⟩
abbrev main_v263 : Ref sig .tc := ⟨.hbm, 324, rfl⟩
abbrev main_v264 : Ref sig .tc := ⟨.hbm, 325, rfl⟩
abbrev main_v265 : Ref sig .tc := ⟨.hbm, 326, rfl⟩
abbrev main_v266 : Ref sig .tc := ⟨.hbm, 327, rfl⟩
abbrev main_v267 : Ref sig .tc := ⟨.hbm, 328, rfl⟩
abbrev main_v268 : Ref sig .tc := ⟨.hbm, 329, rfl⟩
abbrev main_v269 : Ref sig .tc := ⟨.hbm, 330, rfl⟩
abbrev main_cst_33 : Ref sig .tc := ⟨.hbm, 331, rfl⟩
abbrev main_v270 : Ref sig .tc := ⟨.hbm, 332, rfl⟩
abbrev main_v271 : Ref sig .tc := ⟨.hbm, 333, rfl⟩
abbrev main_cst_34 : Ref sig .tc := ⟨.hbm, 334, rfl⟩
abbrev main_v272 : Ref sig .tc := ⟨.hbm, 335, rfl⟩
abbrev main_v273 : Ref sig .tc := ⟨.hbm, 336, rfl⟩
abbrev main_v274 : Ref sig .tc := ⟨.hbm, 337, rfl⟩
abbrev main_v275 : Ref sig .tc := ⟨.hbm, 338, rfl⟩
abbrev main_v276 : Ref sig .tc := ⟨.hbm, 339, rfl⟩
abbrev main_v277 : Ref sig .tc := ⟨.hbm, 340, rfl⟩
abbrev main_v278 : Ref sig .tc := ⟨.hbm, 341, rfl⟩
abbrev main_v279 : Ref sig .tc := ⟨.hbm, 342, rfl⟩
abbrev main_v280 : Ref sig .tc := ⟨.hbm, 343, rfl⟩
abbrev main_cst_35 : Ref sig .tc := ⟨.hbm, 344, rfl⟩
abbrev main_v281 : Ref sig .tc := ⟨.hbm, 345, rfl⟩
abbrev main_v282 : Ref sig .tc := ⟨.hbm, 346, rfl⟩
abbrev main_v283 : Ref sig .tc := ⟨.hbm, 347, rfl⟩
abbrev main_v284 : Ref sig .tc := ⟨.hbm, 348, rfl⟩
abbrev main_v285 : Ref sig .tc := ⟨.hbm, 349, rfl⟩
abbrev main_v286 : Ref sig .tc := ⟨.hbm, 350, rfl⟩
abbrev main_cst_36 : Ref sig .tc := ⟨.hbm, 351, rfl⟩
abbrev main_call14_v0 : Ref sig .tc := ⟨.hbm, 352, rfl⟩
abbrev main_call14_v1 : Ref sig .tc := ⟨.hbm, 353, rfl⟩
abbrev main_v287 : Ref sig .tc := ⟨.hbm, 354, rfl⟩
abbrev main_cst_37 : Ref sig .tc := ⟨.hbm, 355, rfl⟩
abbrev main_v288 : Ref sig .tc := ⟨.hbm, 356, rfl⟩
abbrev main_v289 : Ref sig .tc := ⟨.hbm, 357, rfl⟩
abbrev main_v290 : Ref sig .tc := ⟨.hbm, 358, rfl⟩
abbrev main_v291 : Ref sig .tc := ⟨.hbm, 359, rfl⟩
abbrev main_v292 : Ref sig .tc := ⟨.hbm, 360, rfl⟩
abbrev main_v293 : Ref sig .tc := ⟨.hbm, 361, rfl⟩
abbrev main_v294 : Ref sig .tc := ⟨.hbm, 362, rfl⟩
abbrev main_v295 : Ref sig .tc := ⟨.hbm, 363, rfl⟩
abbrev main_v296 : Ref sig .tc := ⟨.hbm, 364, rfl⟩
abbrev main_v297 : Ref sig .tc := ⟨.hbm, 365, rfl⟩
abbrev main_v298 : Ref sig .tc := ⟨.hbm, 366, rfl⟩
abbrev main_cst_38 : Ref sig .tc := ⟨.hbm, 367, rfl⟩
abbrev main_v299 : Ref sig .tc := ⟨.hbm, 368, rfl⟩
abbrev main_v300 : Ref sig .tc := ⟨.hbm, 369, rfl⟩
abbrev main_cst_39 : Ref sig .tc := ⟨.hbm, 370, rfl⟩
abbrev main_v301 : Ref sig .tc := ⟨.hbm, 371, rfl⟩
abbrev main_v302 : Ref sig .tc := ⟨.hbm, 372, rfl⟩
abbrev main_v303 : Ref sig .tc := ⟨.hbm, 373, rfl⟩
abbrev main_v304 : Ref sig .tc := ⟨.hbm, 374, rfl⟩
abbrev main_v305 : Ref sig .tc := ⟨.hbm, 375, rfl⟩
abbrev main_v306 : Ref sig .tc := ⟨.hbm, 376, rfl⟩
abbrev main_v307 : Ref sig .tc := ⟨.hbm, 377, rfl⟩
abbrev main_v308 : Ref sig .tc := ⟨.hbm, 378, rfl⟩
abbrev main_v309 : Ref sig .tc := ⟨.hbm, 379, rfl⟩
abbrev main_v310 : Ref sig .tc := ⟨.hbm, 380, rfl⟩
abbrev main_v311 : Ref sig .tc := ⟨.hbm, 381, rfl⟩
abbrev main_v312 : Ref sig .tc := ⟨.hbm, 382, rfl⟩
abbrev main_cst_40 : Ref sig .tc := ⟨.hbm, 383, rfl⟩
abbrev main_v313 : Ref sig .tc := ⟨.hbm, 384, rfl⟩
abbrev main_v314 : Ref sig .tc := ⟨.hbm, 385, rfl⟩
abbrev main_cst_41 : Ref sig .tc := ⟨.hbm, 386, rfl⟩
abbrev main_v315 : Ref sig .tc := ⟨.hbm, 387, rfl⟩
abbrev main_v316 : Ref sig .tc := ⟨.hbm, 388, rfl⟩
abbrev main_v317 : Ref sig .tc := ⟨.hbm, 389, rfl⟩
abbrev main_v318 : Ref sig .tc := ⟨.hbm, 390, rfl⟩
abbrev main_v319 : Ref sig .tc := ⟨.hbm, 391, rfl⟩
abbrev main_v320 : Ref sig .tc := ⟨.hbm, 392, rfl⟩
abbrev main_v321 : Ref sig .tc := ⟨.hbm, 393, rfl⟩
abbrev main_v322 : Ref sig .tc := ⟨.hbm, 394, rfl⟩
abbrev main_v323 : Ref sig .tc := ⟨.hbm, 395, rfl⟩
abbrev main_v324 : Ref sig .tc := ⟨.hbm, 396, rfl⟩
abbrev main_v325 : Ref sig .tc := ⟨.hbm, 397, rfl⟩
abbrev main_v326 : Ref sig .tc := ⟨.hbm, 398, rfl⟩
abbrev main_cst_42 : Ref sig .tc := ⟨.hbm, 399, rfl⟩
abbrev main_v327 : Ref sig .tc := ⟨.hbm, 400, rfl⟩
abbrev main_v328 : Ref sig .tc := ⟨.hbm, 401, rfl⟩
abbrev main_cst_43 : Ref sig .tc := ⟨.hbm, 402, rfl⟩
abbrev main_v329 : Ref sig .tc := ⟨.hbm, 403, rfl⟩
abbrev main_v330 : Ref sig .tc := ⟨.hbm, 404, rfl⟩
abbrev main_v331 : Ref sig .tc := ⟨.hbm, 405, rfl⟩
abbrev main_v332 : Ref sig .tc := ⟨.hbm, 406, rfl⟩
abbrev main_v333 : Ref sig .tc := ⟨.hbm, 407, rfl⟩
abbrev main_v334 : Ref sig .tc := ⟨.hbm, 408, rfl⟩
abbrev main_v335 : Ref sig .tc := ⟨.hbm, 409, rfl⟩
abbrev main_v336 : Ref sig .tc := ⟨.hbm, 410, rfl⟩
abbrev main_v337 : Ref sig .tc := ⟨.hbm, 411, rfl⟩
abbrev main_v338 : Ref sig .tc := ⟨.hbm, 412, rfl⟩
abbrev main_v339 : Ref sig .tc := ⟨.hbm, 413, rfl⟩
abbrev main_v340 : Ref sig .tc := ⟨.hbm, 414, rfl⟩
abbrev main_cst_44 : Ref sig .tc := ⟨.hbm, 415, rfl⟩
abbrev main_v341 : Ref sig .tc := ⟨.hbm, 416, rfl⟩
abbrev main_v342 : Ref sig .tc := ⟨.hbm, 417, rfl⟩
abbrev main_cst_45 : Ref sig .tc := ⟨.hbm, 418, rfl⟩
abbrev main_v343 : Ref sig .tc := ⟨.hbm, 419, rfl⟩
abbrev main_v344 : Ref sig .tc := ⟨.hbm, 420, rfl⟩
abbrev main_v345 : Ref sig .tc := ⟨.hbm, 421, rfl⟩
abbrev main_v346 : Ref sig .tc := ⟨.hbm, 422, rfl⟩
abbrev main_v347 : Ref sig .tc := ⟨.hbm, 423, rfl⟩
abbrev main_v348 : Ref sig .tc := ⟨.hbm, 424, rfl⟩
abbrev main_v349 : Ref sig .tc := ⟨.hbm, 425, rfl⟩
abbrev main_v350 : Ref sig .tc := ⟨.hbm, 426, rfl⟩
abbrev main_v351 : Ref sig .tc := ⟨.hbm, 427, rfl⟩
abbrev main_v352 : Ref sig .tc := ⟨.hbm, 428, rfl⟩
abbrev main_v353 : Ref sig .tc := ⟨.hbm, 429, rfl⟩
abbrev main_v354 : Ref sig .tc := ⟨.hbm, 430, rfl⟩
abbrev main_cst_46 : Ref sig .tc := ⟨.hbm, 431, rfl⟩
abbrev main_v355 : Ref sig .tc := ⟨.hbm, 432, rfl⟩
abbrev main_v356 : Ref sig .tc := ⟨.hbm, 433, rfl⟩
abbrev main_cst_47 : Ref sig .tc := ⟨.hbm, 434, rfl⟩
abbrev main_v357 : Ref sig .tc := ⟨.hbm, 435, rfl⟩
abbrev main_v358 : Ref sig .tc := ⟨.hbm, 436, rfl⟩
abbrev main_v359 : Ref sig .tc := ⟨.hbm, 437, rfl⟩
abbrev main_v360 : Ref sig .tc := ⟨.hbm, 438, rfl⟩
abbrev main_v361 : Ref sig .tc := ⟨.hbm, 439, rfl⟩
abbrev main_v362 : Ref sig .tc := ⟨.hbm, 440, rfl⟩
abbrev main_v363 : Ref sig .tc := ⟨.hbm, 441, rfl⟩
abbrev main_v364 : Ref sig .tc := ⟨.hbm, 442, rfl⟩
abbrev main_v365 : Ref sig .tc := ⟨.hbm, 443, rfl⟩
abbrev main_v366 : Ref sig .tc := ⟨.hbm, 444, rfl⟩
abbrev main_v367 : Ref sig .tc := ⟨.hbm, 445, rfl⟩
abbrev main_v368 : Ref sig .tc := ⟨.hbm, 446, rfl⟩
abbrev main_cst_48 : Ref sig .tc := ⟨.hbm, 447, rfl⟩
abbrev main_v369 : Ref sig .tc := ⟨.hbm, 448, rfl⟩
abbrev main_v370 : Ref sig .tc := ⟨.hbm, 449, rfl⟩
abbrev main_cst_49 : Ref sig .tc := ⟨.hbm, 450, rfl⟩
abbrev main_v371 : Ref sig .tc := ⟨.hbm, 451, rfl⟩
abbrev main_v372 : Ref sig .tc := ⟨.hbm, 452, rfl⟩
abbrev main_v373 : Ref sig .tc := ⟨.hbm, 453, rfl⟩
abbrev main_v374 : Ref sig .tc := ⟨.hbm, 454, rfl⟩
abbrev main_v375 : Ref sig .tc := ⟨.hbm, 455, rfl⟩
abbrev main_v376 : Ref sig .tc := ⟨.hbm, 456, rfl⟩
abbrev main_v377 : Ref sig .tc := ⟨.hbm, 457, rfl⟩
abbrev main_v378 : Ref sig .tc := ⟨.hbm, 458, rfl⟩
abbrev main_call21_cst : Ref sig .tc := ⟨.hbm, 459, rfl⟩
abbrev main_call21_v0 : Ref sig .tc := ⟨.hbm, 460, rfl⟩
abbrev main_call21_v1 : Ref sig .tc := ⟨.hbm, 461, rfl⟩
abbrev main_call21_v2 : Ref sig .tc := ⟨.hbm, 462, rfl⟩
abbrev main_call21_v3 : Ref sig .tc := ⟨.hbm, 463, rfl⟩
abbrev main_call21_v4 : Ref sig .tc := ⟨.hbm, 464, rfl⟩
abbrev main_call21_v5 : Ref sig .tc := ⟨.hbm, 465, rfl⟩
abbrev main_call21_v6 : Ref sig .tc := ⟨.hbm, 466, rfl⟩
abbrev main_call21_v7 : Ref sig .tc := ⟨.hbm, 467, rfl⟩
abbrev main_call21_v8 : Ref sig .tc := ⟨.hbm, 468, rfl⟩
abbrev main_call21_v9 : Ref sig .tc := ⟨.hbm, 469, rfl⟩
abbrev main_call21_v10 : Ref sig .tc := ⟨.hbm, 470, rfl⟩
abbrev main_call21_v11 : Ref sig .tc := ⟨.hbm, 471, rfl⟩
abbrev main_v379 : Ref sig .tc := ⟨.hbm, 472, rfl⟩
abbrev main_v380 : Ref sig .tc := ⟨.hbm, 473, rfl⟩

abbrev nD : Nat := 1
abbrev τ : Topo := Topo.v7x

variable {F : FTy → Type} [FloatOps F]
-- ==== Proof.Own.KernelIdeal.RunA.lean ====
/- The run of KernelIdeal's kernel body over whole staging buffers: the generated text with a larger budget, since the
   generated one stops at its own limit. -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 40000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S1x1x1000 .f32) (harg1 : arg1.IsWhole) (arg2 : Memref sig .tc .vmem S1x1x1000 .f32) (harg2 : arg2.IsWhole) (arg3 : Memref sig .tc .vmem S1x1x1000 .f32) (harg3 : arg3.IsWhole) (arg4 : Memref sig .tc .vmem S1x1x1000 .f32) (harg4 : arg4.IsWhole) (arg5 : Memref sig .tc .vmem S1x1x1000 .f32) (harg5 : arg5.IsWhole) (arg6 : Memref sig .tc .vmem S7x1x1000 .f32) (harg6 : arg6.IsWhole) (arg7 : Memref sig .tc .vmem S8x2560 .f32) (harg7 : arg7.IsWhole) (arg8 : Memref sig .tc .vmem S8x2560 .f32) (harg8 : arg8.IsWhole) (arg9 : Memref sig .tc .vmem S8x2560 .f32) (harg9 : arg9.IsWhole) (arg10 : Memref sig .tc .vmem S8x2560 .f32) (harg10 : arg10.IsWhole) (arg11 : Memref sig .tc .vmem S8x2560 .f32) (harg11 : arg11.IsWhole) (arg12 : Memref sig .tc .vmem S8x2560 .f32) (harg12 : arg12.IsWhole) (arg13 : Memref sig .tc .vmem S8x2560 .f32) (harg13 : arg13.IsWhole) (arg14 : Memref sig .tc .vmem S1x256x1000 .f32) (harg14 : arg14.IsWhole) (arg15 : Memref sig .tc .vmem S6x256x256 .f32) (harg15 : arg15.IsWhole) (arg16 : Memref sig .tc .vmem S6x256x1 .f32) (harg16 : arg16.IsWhole) (arg17 : Memref sig .tc .vmem S3x256 .f32) (harg17 : arg17.IsWhole) (arg18 : Memref sig .tc .vmem S3x1 .f32) (harg18 : arg18.IsWhole) (arg19 : Memref sig .tc .vmem S4x256x256 .f32) (harg19 : arg19.IsWhole) (arg20 : Memref sig .tc .vmem S4x256x1 .f32) (harg20 : arg20.IsWhole) (arg21 : Memref sig .tc .vmem S1x256 .f32) (harg21 : arg21.IsWhole) (arg22 : Memref sig .tc .vmem S1x1 .f32) (harg22 : arg22.IsWhole) (arg23 : Memref sig .tc .vmem S6x256x256 .f32) (harg23 : arg23.IsWhole) (arg24 : Memref sig .tc .vmem S6x256x1 .f32) (harg24 : arg24.IsWhole) (arg25 : Memref sig .tc .vmem S4x256 .f32) (harg25 : arg25.IsWhole) (arg26 : Memref sig .tc .vmem S4x1 .f32) (harg26 : arg26.IsWhole) (arg27 : Memref sig .tc .vmem S1x1x1000 .f32) (harg27 : arg27.IsWhole) (arg28 : Memref sig .tc .vmem S1x4x1000 .f32) (harg28 : arg28.IsWhole) (arg29 : Memref sig .tc .vmem S1x4x1000 .f32) (harg29 : arg29.IsWhole) (arg30 : Memref sig .tc .vmem S1x1x1000 .f32) (harg30 : arg30.IsWhole)
    (x0 : Vec F S1x1x1000 .f32) (x1 : Vec F S1x1x1000 .f32) (x2 : Vec F S1x1x1000 .f32) (x3 : Vec F S1x1x1000 .f32) (x4 : Vec F S1x1x1000 .f32) (x5 : Vec F S7x1x1000 .f32) (x6 : Vec F S8x2560 .f32) (x7 : Vec F S8x2560 .f32) (x8 : Vec F S8x2560 .f32) (x9 : Vec F S8x2560 .f32) (x10 : Vec F S8x2560 .f32) (x11 : Vec F S8x2560 .f32) (x12 : Vec F S8x2560 .f32) (x13 : Vec F S1x256x1000 .f32) (x14 : Vec F S6x256x256 .f32) (x15 : Vec F S6x256x1 .f32) (x16 : Vec F S3x256 .f32) (x17 : Vec F S3x1 .f32) (x18 : Vec F S4x256x256 .f32) (x19 : Vec F S4x256x1 .f32) (x20 : Vec F S1x256 .f32) (x21 : Vec F S1x1 .f32) (x22 : Vec F S6x256x256 .f32) (x23 : Vec F S6x256x1 .f32) (x24 : Vec F S4x256 .f32) (x25 : Vec F S4x1 .f32) :
    Σ' (L26 : List (View.Piece (Elt F) S1x1x1000 .f32)), Σ' (L27 : List (View.Piece (Elt F) S1x4x1000 .f32)), Σ' (L28 : List (View.Piece (Elt F) S1x4x1000 .f32)), { L29 : List (View.Piece (Elt F) S1x1x1000 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ (∃ f, arg27.view.loc (c : Thread nD τ) ↦[arg27.view.set]{fullShare} arg27.view.writes (Elt F) f L26) ∗ (∃ f, arg28.view.loc (c : Thread nD τ) ↦[arg28.view.set]{fullShare} arg28.view.writes (Elt F) f L27) ∗ (∃ f, arg29.view.loc (c : Thread nD τ) ↦[arg29.view.set]{fullShare} arg29.view.writes (Elt F) f L28) ∗ (∃ f, arg30.view.loc (c : Thread nD τ) ↦[arg30.view.set]{fullShare} arg30.view.writes (Elt F) f L29)) -∗ K ⟨⟩))
          ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K } := by
  refine ⟨?_, ?_, ?_, ?_, fun E K => ?run⟩
  case run =>
    simp only [cc0__kernel_eq_skeleton]; unfold cc0__kernel_skel
    simp only [k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%d26, %f26, -, H26⟩, ⟨%d27, %f27, -, H27⟩, ⟨%d28, %f28, -, H28⟩, ⟨%d29, %f29, -, H29⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg25.eq_unread hf24; obtain rfl := harg26.eq_unread hf25
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]
    · iexists _; isplitr; · ipureintro; exact harg25.read_unread _
      iexact H24
    isplitl [H25]
    · iexists _; isplitr; · ipureintro; exact harg26.read_unread _
      iexact H25
    isplitl [H26]; · iexists _; iexact H26
    isplitl [H27]; · iexists _; iexact H27
    isplitl [H28]; · iexists _; iexact H28
    iexists _; iexact H29

end Cert.KernelIdeal.Gen

end
-- ==== Proof.Own.KernelIdeal.Frame.lean ====
/- The frame certificate of KernelIdeal: the generated text over the run in `Own/KernelIdeal/RunA.lean`. -/
module

public import proofs.«01_k».proof.Proof.Own.KernelIdeal.RunA
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 26 tile its block (1 store of `S1x1x1000`, checked by the kernel's evaluation: Lib/Ring.lean `Piece.tiledL`, linear in the pieces, through a loop's `@[irreducible]` trip theorem too), so they cover it. -/
theorem cover0_A_26 (c : Dev nD) (i : grid0.Coords) (arg1 : Memref sig .tc .vmem S1x1x1000 .f32) (harg1 : arg1.IsWhole) (arg2 : Memref sig .tc .vmem S1x1x1000 .f32) (harg2 : arg2.IsWhole) (arg3 : Memref sig .tc .vmem S1x1x1000 .f32) (harg3 : arg3.IsWhole) (arg4 : Memref sig .tc .vmem S1x1x1000 .f32) (harg4 : arg4.IsWhole) (arg5 : Memref sig .tc .vmem S1x1x1000 .f32) (harg5 : arg5.IsWhole) (arg6 : Memref sig .tc .vmem S7x1x1000 .f32) (harg6 : arg6.IsWhole) (arg7 : Memref sig .tc .vmem S8x2560 .f32) (harg7 : arg7.IsWhole) (arg8 : Memref sig .tc .vmem S8x2560 .f32) (harg8 : arg8.IsWhole) (arg9 : Memref sig .tc .vmem S8x2560 .f32) (harg9 : arg9.IsWhole) (arg10 : Memref sig .tc .vmem S8x2560 .f32) (harg10 : arg10.IsWhole) (arg11 : Memref sig .tc .vmem S8x2560 .f32) (harg11 : arg11.IsWhole) (arg12 : Memref sig .tc .vmem S8x2560 .f32) (harg12 : arg12.IsWhole) (arg13 : Memref sig .tc .vmem S8x2560 .f32) (harg13 : arg13.IsWhole) (arg14 : Memref sig .tc .vmem S1x256x1000 .f32) (harg14 : arg14.IsWhole) (arg15 : Memref sig .tc .vmem S6x256x256 .f32) (harg15 : arg15.IsWhole) (arg16 : Memref sig .tc .vmem S6x256x1 .f32) (harg16 : arg16.IsWhole) (arg17 : Memref sig .tc .vmem S3x256 .f32) (harg17 : arg17.IsWhole) (arg18 : Memref sig .tc .vmem S3x1 .f32) (harg18 : arg18.IsWhole) (arg19 : Memref sig .tc .vmem S4x256x256 .f32) (harg19 : arg19.IsWhole) (arg20 : Memref sig .tc .vmem S4x256x1 .f32) (harg20 : arg20.IsWhole) (arg21 : Memref sig .tc .vmem S1x256 .f32) (harg21 : arg21.IsWhole) (arg22 : Memref sig .tc .vmem S1x1 .f32) (harg22 : arg22.IsWhole) (arg23 : Memref sig .tc .vmem S6x256x256 .f32) (harg23 : arg23.IsWhole) (arg24 : Memref sig .tc .vmem S6x256x1 .f32) (harg24 : arg24.IsWhole) (arg25 : Memref sig .tc .vmem S4x256 .f32) (harg25 : arg25.IsWhole) (arg26 : Memref sig .tc .vmem S4x1 .f32) (harg26 : arg26.IsWhole) (arg27 : Memref sig .tc .vmem S1x1x1000 .f32) (harg27 : arg27.IsWhole) (arg28 : Memref sig .tc .vmem S1x4x1000 .f32) (harg28 : arg28.IsWhole) (arg29 : Memref sig .tc .vmem S1x4x1000 .f32) (harg29 : arg29.IsWhole) (arg30 : Memref sig .tc .vmem S1x1x1000 .f32) (harg30 : arg30.IsWhole)
    (x0 : Vec F S1x1x1000 .f32) (x1 : Vec F S1x1x1000 .f32) (x2 : Vec F S1x1x1000 .f32) (x3 : Vec F S1x1x1000 .f32) (x4 : Vec F S1x1x1000 .f32) (x5 : Vec F S7x1x1000 .f32) (x6 : Vec F S8x2560 .f32) (x7 : Vec F S8x2560 .f32) (x8 : Vec F S8x2560 .f32) (x9 : Vec F S8x2560 .f32) (x10 : Vec F S8x2560 .f32) (x11 : Vec F S8x2560 .f32) (x12 : Vec F S8x2560 .f32) (x13 : Vec F S1x256x1000 .f32) (x14 : Vec F S6x256x256 .f32) (x15 : Vec F S6x256x1 .f32) (x16 : Vec F S3x256 .f32) (x17 : Vec F S3x1 .f32) (x18 : Vec F S4x256x256 .f32) (x19 : Vec F S4x256x1 .f32) (x20 : Vec F S1x256 .f32) (x21 : Vec F S1x1 .f32) (x22 : Vec F S6x256x256 .f32) (x23 : Vec F S6x256x1 .f32) (x24 : Vec F S4x256 .f32) (x25 : Vec F S4x1 .f32) (y : S1x1x1000.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22 x23 x24 x25).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22 x23 x24 x25).1 S1x1x1000.size (by sl_kernel_rfl) y

/-- What the run leaves in output 26's staging buffer: its pieces read back over junk. -/
def out0_A_26 (c : Dev nD) (i : grid0.Coords) (arg1 : Memref sig .tc .vmem S1x1x1000 .f32) (harg1 : arg1.IsWhole) (arg2 : Memref sig .tc .vmem S1x1x1000 .f32) (harg2 : arg2.IsWhole) (arg3 : Memref sig .tc .vmem S1x1x1000 .f32) (harg3 : arg3.IsWhole) (arg4 : Memref sig .tc .vmem S1x1x1000 .f32) (harg4 : arg4.IsWhole) (arg5 : Memref sig .tc .vmem S1x1x1000 .f32) (harg5 : arg5.IsWhole) (arg6 : Memref sig .tc .vmem S7x1x1000 .f32) (harg6 : arg6.IsWhole) (arg7 : Memref sig .tc .vmem S8x2560 .f32) (harg7 : arg7.IsWhole) (arg8 : Memref sig .tc .vmem S8x2560 .f32) (harg8 : arg8.IsWhole) (arg9 : Memref sig .tc .vmem S8x2560 .f32) (harg9 : arg9.IsWhole) (arg10 : Memref sig .tc .vmem S8x2560 .f32) (harg10 : arg10.IsWhole) (arg11 : Memref sig .tc .vmem S8x2560 .f32) (harg11 : arg11.IsWhole) (arg12 : Memref sig .tc .vmem S8x2560 .f32) (harg12 : arg12.IsWhole) (arg13 : Memref sig .tc .vmem S8x2560 .f32) (harg13 : arg13.IsWhole) (arg14 : Memref sig .tc .vmem S1x256x1000 .f32) (harg14 : arg14.IsWhole) (arg15 : Memref sig .tc .vmem S6x256x256 .f32) (harg15 : arg15.IsWhole) (arg16 : Memref sig .tc .vmem S6x256x1 .f32) (harg16 : arg16.IsWhole) (arg17 : Memref sig .tc .vmem S3x256 .f32) (harg17 : arg17.IsWhole) (arg18 : Memref sig .tc .vmem S3x1 .f32) (harg18 : arg18.IsWhole) (arg19 : Memref sig .tc .vmem S4x256x256 .f32) (harg19 : arg19.IsWhole) (arg20 : Memref sig .tc .vmem S4x256x1 .f32) (harg20 : arg20.IsWhole) (arg21 : Memref sig .tc .vmem S1x256 .f32) (harg21 : arg21.IsWhole) (arg22 : Memref sig .tc .vmem S1x1 .f32) (harg22 : arg22.IsWhole) (arg23 : Memref sig .tc .vmem S6x256x256 .f32) (harg23 : arg23.IsWhole) (arg24 : Memref sig .tc .vmem S6x256x1 .f32) (harg24 : arg24.IsWhole) (arg25 : Memref sig .tc .vmem S4x256 .f32) (harg25 : arg25.IsWhole) (arg26 : Memref sig .tc .vmem S4x1 .f32) (harg26 : arg26.IsWhole) (arg27 : Memref sig .tc .vmem S1x1x1000 .f32) (harg27 : arg27.IsWhole) (arg28 : Memref sig .tc .vmem S1x4x1000 .f32) (harg28 : arg28.IsWhole) (arg29 : Memref sig .tc .vmem S1x4x1000 .f32) (harg29 : arg29.IsWhole) (arg30 : Memref sig .tc .vmem S1x1x1000 .f32) (harg30 : arg30.IsWhole)
    (x0 : Vec F S1x1x1000 .f32) (x1 : Vec F S1x1x1000 .f32) (x2 : Vec F S1x1x1000 .f32) (x3 : Vec F S1x1x1000 .f32) (x4 : Vec F S1x1x1000 .f32) (x5 : Vec F S7x1x1000 .f32) (x6 : Vec F S8x2560 .f32) (x7 : Vec F S8x2560 .f32) (x8 : Vec F S8x2560 .f32) (x9 : Vec F S8x2560 .f32) (x10 : Vec F S8x2560 .f32) (x11 : Vec F S8x2560 .f32) (x12 : Vec F S8x2560 .f32) (x13 : Vec F S1x256x1000 .f32) (x14 : Vec F S6x256x256 .f32) (x15 : Vec F S6x256x1 .f32) (x16 : Vec F S3x256 .f32) (x17 : Vec F S3x1 .f32) (x18 : Vec F S4x256x256 .f32) (x19 : Vec F S4x256x1 .f32) (x20 : Vec F S1x256 .f32) (x21 : Vec F S1x1 .f32) (x22 : Vec F S6x256x256 .f32) (x23 : Vec F S6x256x1 .f32) (x24 : Vec F S4x256 .f32) (x25 : Vec F S4x1 .f32) : Vec F S1x1x1000 .f32 :=
  VO0_26.read (Elt F) (VO0_26.writes (Elt F) VO0_26.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22 x23 x24 x25).1)

/-- The run's pieces for output 27 tile its block (1 store of `S1x4x1000`, checked by the kernel's evaluation: Lib/Ring.lean `Piece.tiledL`, linear in the pieces, through a loop's `@[irreducible]` trip theorem too), so they cover it. -/
theorem cover0_A_27 (c : Dev nD) (i : grid0.Coords) (arg1 : Memref sig .tc .vmem S1x1x1000 .f32) (harg1 : arg1.IsWhole) (arg2 : Memref sig .tc .vmem S1x1x1000 .f32) (harg2 : arg2.IsWhole) (arg3 : Memref sig .tc .vmem S1x1x1000 .f32) (harg3 : arg3.IsWhole) (arg4 : Memref sig .tc .vmem S1x1x1000 .f32) (harg4 : arg4.IsWhole) (arg5 : Memref sig .tc .vmem S1x1x1000 .f32) (harg5 : arg5.IsWhole) (arg6 : Memref sig .tc .vmem S7x1x1000 .f32) (harg6 : arg6.IsWhole) (arg7 : Memref sig .tc .vmem S8x2560 .f32) (harg7 : arg7.IsWhole) (arg8 : Memref sig .tc .vmem S8x2560 .f32) (harg8 : arg8.IsWhole) (arg9 : Memref sig .tc .vmem S8x2560 .f32) (harg9 : arg9.IsWhole) (arg10 : Memref sig .tc .vmem S8x2560 .f32) (harg10 : arg10.IsWhole) (arg11 : Memref sig .tc .vmem S8x2560 .f32) (harg11 : arg11.IsWhole) (arg12 : Memref sig .tc .vmem S8x2560 .f32) (harg12 : arg12.IsWhole) (arg13 : Memref sig .tc .vmem S8x2560 .f32) (harg13 : arg13.IsWhole) (arg14 : Memref sig .tc .vmem S1x256x1000 .f32) (harg14 : arg14.IsWhole) (arg15 : Memref sig .tc .vmem S6x256x256 .f32) (harg15 : arg15.IsWhole) (arg16 : Memref sig .tc .vmem S6x256x1 .f32) (harg16 : arg16.IsWhole) (arg17 : Memref sig .tc .vmem S3x256 .f32) (harg17 : arg17.IsWhole) (arg18 : Memref sig .tc .vmem S3x1 .f32) (harg18 : arg18.IsWhole) (arg19 : Memref sig .tc .vmem S4x256x256 .f32) (harg19 : arg19.IsWhole) (arg20 : Memref sig .tc .vmem S4x256x1 .f32) (harg20 : arg20.IsWhole) (arg21 : Memref sig .tc .vmem S1x256 .f32) (harg21 : arg21.IsWhole) (arg22 : Memref sig .tc .vmem S1x1 .f32) (harg22 : arg22.IsWhole) (arg23 : Memref sig .tc .vmem S6x256x256 .f32) (harg23 : arg23.IsWhole) (arg24 : Memref sig .tc .vmem S6x256x1 .f32) (harg24 : arg24.IsWhole) (arg25 : Memref sig .tc .vmem S4x256 .f32) (harg25 : arg25.IsWhole) (arg26 : Memref sig .tc .vmem S4x1 .f32) (harg26 : arg26.IsWhole) (arg27 : Memref sig .tc .vmem S1x1x1000 .f32) (harg27 : arg27.IsWhole) (arg28 : Memref sig .tc .vmem S1x4x1000 .f32) (harg28 : arg28.IsWhole) (arg29 : Memref sig .tc .vmem S1x4x1000 .f32) (harg29 : arg29.IsWhole) (arg30 : Memref sig .tc .vmem S1x1x1000 .f32) (harg30 : arg30.IsWhole)
    (x0 : Vec F S1x1x1000 .f32) (x1 : Vec F S1x1x1000 .f32) (x2 : Vec F S1x1x1000 .f32) (x3 : Vec F S1x1x1000 .f32) (x4 : Vec F S1x1x1000 .f32) (x5 : Vec F S7x1x1000 .f32) (x6 : Vec F S8x2560 .f32) (x7 : Vec F S8x2560 .f32) (x8 : Vec F S8x2560 .f32) (x9 : Vec F S8x2560 .f32) (x10 : Vec F S8x2560 .f32) (x11 : Vec F S8x2560 .f32) (x12 : Vec F S8x2560 .f32) (x13 : Vec F S1x256x1000 .f32) (x14 : Vec F S6x256x256 .f32) (x15 : Vec F S6x256x1 .f32) (x16 : Vec F S3x256 .f32) (x17 : Vec F S3x1 .f32) (x18 : Vec F S4x256x256 .f32) (x19 : Vec F S4x256x1 .f32) (x20 : Vec F S1x256 .f32) (x21 : Vec F S1x1 .f32) (x22 : Vec F S6x256x256 .f32) (x23 : Vec F S6x256x1 .f32) (x24 : Vec F S4x256 .f32) (x25 : Vec F S4x1 .f32) (y : S1x4x1000.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22 x23 x24 x25).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22 x23 x24 x25).2.1 S1x4x1000.size (by sl_kernel_rfl) y

/-- What the run leaves in output 27's staging buffer: its pieces read back over junk. -/
def out0_A_27 (c : Dev nD) (i : grid0.Coords) (arg1 : Memref sig .tc .vmem S1x1x1000 .f32) (harg1 : arg1.IsWhole) (arg2 : Memref sig .tc .vmem S1x1x1000 .f32) (harg2 : arg2.IsWhole) (arg3 : Memref sig .tc .vmem S1x1x1000 .f32) (harg3 : arg3.IsWhole) (arg4 : Memref sig .tc .vmem S1x1x1000 .f32) (harg4 : arg4.IsWhole) (arg5 : Memref sig .tc .vmem S1x1x1000 .f32) (harg5 : arg5.IsWhole) (arg6 : Memref sig .tc .vmem S7x1x1000 .f32) (harg6 : arg6.IsWhole) (arg7 : Memref sig .tc .vmem S8x2560 .f32) (harg7 : arg7.IsWhole) (arg8 : Memref sig .tc .vmem S8x2560 .f32) (harg8 : arg8.IsWhole) (arg9 : Memref sig .tc .vmem S8x2560 .f32) (harg9 : arg9.IsWhole) (arg10 : Memref sig .tc .vmem S8x2560 .f32) (harg10 : arg10.IsWhole) (arg11 : Memref sig .tc .vmem S8x2560 .f32) (harg11 : arg11.IsWhole) (arg12 : Memref sig .tc .vmem S8x2560 .f32) (harg12 : arg12.IsWhole) (arg13 : Memref sig .tc .vmem S8x2560 .f32) (harg13 : arg13.IsWhole) (arg14 : Memref sig .tc .vmem S1x256x1000 .f32) (harg14 : arg14.IsWhole) (arg15 : Memref sig .tc .vmem S6x256x256 .f32) (harg15 : arg15.IsWhole) (arg16 : Memref sig .tc .vmem S6x256x1 .f32) (harg16 : arg16.IsWhole) (arg17 : Memref sig .tc .vmem S3x256 .f32) (harg17 : arg17.IsWhole) (arg18 : Memref sig .tc .vmem S3x1 .f32) (harg18 : arg18.IsWhole) (arg19 : Memref sig .tc .vmem S4x256x256 .f32) (harg19 : arg19.IsWhole) (arg20 : Memref sig .tc .vmem S4x256x1 .f32) (harg20 : arg20.IsWhole) (arg21 : Memref sig .tc .vmem S1x256 .f32) (harg21 : arg21.IsWhole) (arg22 : Memref sig .tc .vmem S1x1 .f32) (harg22 : arg22.IsWhole) (arg23 : Memref sig .tc .vmem S6x256x256 .f32) (harg23 : arg23.IsWhole) (arg24 : Memref sig .tc .vmem S6x256x1 .f32) (harg24 : arg24.IsWhole) (arg25 : Memref sig .tc .vmem S4x256 .f32) (harg25 : arg25.IsWhole) (arg26 : Memref sig .tc .vmem S4x1 .f32) (harg26 : arg26.IsWhole) (arg27 : Memref sig .tc .vmem S1x1x1000 .f32) (harg27 : arg27.IsWhole) (arg28 : Memref sig .tc .vmem S1x4x1000 .f32) (harg28 : arg28.IsWhole) (arg29 : Memref sig .tc .vmem S1x4x1000 .f32) (harg29 : arg29.IsWhole) (arg30 : Memref sig .tc .vmem S1x1x1000 .f32) (harg30 : arg30.IsWhole)
    (x0 : Vec F S1x1x1000 .f32) (x1 : Vec F S1x1x1000 .f32) (x2 : Vec F S1x1x1000 .f32) (x3 : Vec F S1x1x1000 .f32) (x4 : Vec F S1x1x1000 .f32) (x5 : Vec F S7x1x1000 .f32) (x6 : Vec F S8x2560 .f32) (x7 : Vec F S8x2560 .f32) (x8 : Vec F S8x2560 .f32) (x9 : Vec F S8x2560 .f32) (x10 : Vec F S8x2560 .f32) (x11 : Vec F S8x2560 .f32) (x12 : Vec F S8x2560 .f32) (x13 : Vec F S1x256x1000 .f32) (x14 : Vec F S6x256x256 .f32) (x15 : Vec F S6x256x1 .f32) (x16 : Vec F S3x256 .f32) (x17 : Vec F S3x1 .f32) (x18 : Vec F S4x256x256 .f32) (x19 : Vec F S4x256x1 .f32) (x20 : Vec F S1x256 .f32) (x21 : Vec F S1x1 .f32) (x22 : Vec F S6x256x256 .f32) (x23 : Vec F S6x256x1 .f32) (x24 : Vec F S4x256 .f32) (x25 : Vec F S4x1 .f32) : Vec F S1x4x1000 .f32 :=
  VO0_27.read (Elt F) (VO0_27.writes (Elt F) VO0_27.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22 x23 x24 x25).2.1)

/-- The run's pieces for output 28 tile its block (1 store of `S1x4x1000`, checked by the kernel's evaluation: Lib/Ring.lean `Piece.tiledL`, linear in the pieces, through a loop's `@[irreducible]` trip theorem too), so they cover it. -/
theorem cover0_A_28 (c : Dev nD) (i : grid0.Coords) (arg1 : Memref sig .tc .vmem S1x1x1000 .f32) (harg1 : arg1.IsWhole) (arg2 : Memref sig .tc .vmem S1x1x1000 .f32) (harg2 : arg2.IsWhole) (arg3 : Memref sig .tc .vmem S1x1x1000 .f32) (harg3 : arg3.IsWhole) (arg4 : Memref sig .tc .vmem S1x1x1000 .f32) (harg4 : arg4.IsWhole) (arg5 : Memref sig .tc .vmem S1x1x1000 .f32) (harg5 : arg5.IsWhole) (arg6 : Memref sig .tc .vmem S7x1x1000 .f32) (harg6 : arg6.IsWhole) (arg7 : Memref sig .tc .vmem S8x2560 .f32) (harg7 : arg7.IsWhole) (arg8 : Memref sig .tc .vmem S8x2560 .f32) (harg8 : arg8.IsWhole) (arg9 : Memref sig .tc .vmem S8x2560 .f32) (harg9 : arg9.IsWhole) (arg10 : Memref sig .tc .vmem S8x2560 .f32) (harg10 : arg10.IsWhole) (arg11 : Memref sig .tc .vmem S8x2560 .f32) (harg11 : arg11.IsWhole) (arg12 : Memref sig .tc .vmem S8x2560 .f32) (harg12 : arg12.IsWhole) (arg13 : Memref sig .tc .vmem S8x2560 .f32) (harg13 : arg13.IsWhole) (arg14 : Memref sig .tc .vmem S1x256x1000 .f32) (harg14 : arg14.IsWhole) (arg15 : Memref sig .tc .vmem S6x256x256 .f32) (harg15 : arg15.IsWhole) (arg16 : Memref sig .tc .vmem S6x256x1 .f32) (harg16 : arg16.IsWhole) (arg17 : Memref sig .tc .vmem S3x256 .f32) (harg17 : arg17.IsWhole) (arg18 : Memref sig .tc .vmem S3x1 .f32) (harg18 : arg18.IsWhole) (arg19 : Memref sig .tc .vmem S4x256x256 .f32) (harg19 : arg19.IsWhole) (arg20 : Memref sig .tc .vmem S4x256x1 .f32) (harg20 : arg20.IsWhole) (arg21 : Memref sig .tc .vmem S1x256 .f32) (harg21 : arg21.IsWhole) (arg22 : Memref sig .tc .vmem S1x1 .f32) (harg22 : arg22.IsWhole) (arg23 : Memref sig .tc .vmem S6x256x256 .f32) (harg23 : arg23.IsWhole) (arg24 : Memref sig .tc .vmem S6x256x1 .f32) (harg24 : arg24.IsWhole) (arg25 : Memref sig .tc .vmem S4x256 .f32) (harg25 : arg25.IsWhole) (arg26 : Memref sig .tc .vmem S4x1 .f32) (harg26 : arg26.IsWhole) (arg27 : Memref sig .tc .vmem S1x1x1000 .f32) (harg27 : arg27.IsWhole) (arg28 : Memref sig .tc .vmem S1x4x1000 .f32) (harg28 : arg28.IsWhole) (arg29 : Memref sig .tc .vmem S1x4x1000 .f32) (harg29 : arg29.IsWhole) (arg30 : Memref sig .tc .vmem S1x1x1000 .f32) (harg30 : arg30.IsWhole)
    (x0 : Vec F S1x1x1000 .f32) (x1 : Vec F S1x1x1000 .f32) (x2 : Vec F S1x1x1000 .f32) (x3 : Vec F S1x1x1000 .f32) (x4 : Vec F S1x1x1000 .f32) (x5 : Vec F S7x1x1000 .f32) (x6 : Vec F S8x2560 .f32) (x7 : Vec F S8x2560 .f32) (x8 : Vec F S8x2560 .f32) (x9 : Vec F S8x2560 .f32) (x10 : Vec F S8x2560 .f32) (x11 : Vec F S8x2560 .f32) (x12 : Vec F S8x2560 .f32) (x13 : Vec F S1x256x1000 .f32) (x14 : Vec F S6x256x256 .f32) (x15 : Vec F S6x256x1 .f32) (x16 : Vec F S3x256 .f32) (x17 : Vec F S3x1 .f32) (x18 : Vec F S4x256x256 .f32) (x19 : Vec F S4x256x1 .f32) (x20 : Vec F S1x256 .f32) (x21 : Vec F S1x1 .f32) (x22 : Vec F S6x256x256 .f32) (x23 : Vec F S6x256x1 .f32) (x24 : Vec F S4x256 .f32) (x25 : Vec F S4x1 .f32) (y : S1x4x1000.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22 x23 x24 x25).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22 x23 x24 x25).2.2.1 S1x4x1000.size (by sl_kernel_rfl) y

/-- What the run leaves in output 28's staging buffer: its pieces read back over junk. -/
def out0_A_28 (c : Dev nD) (i : grid0.Coords) (arg1 : Memref sig .tc .vmem S1x1x1000 .f32) (harg1 : arg1.IsWhole) (arg2 : Memref sig .tc .vmem S1x1x1000 .f32) (harg2 : arg2.IsWhole) (arg3 : Memref sig .tc .vmem S1x1x1000 .f32) (harg3 : arg3.IsWhole) (arg4 : Memref sig .tc .vmem S1x1x1000 .f32) (harg4 : arg4.IsWhole) (arg5 : Memref sig .tc .vmem S1x1x1000 .f32) (harg5 : arg5.IsWhole) (arg6 : Memref sig .tc .vmem S7x1x1000 .f32) (harg6 : arg6.IsWhole) (arg7 : Memref sig .tc .vmem S8x2560 .f32) (harg7 : arg7.IsWhole) (arg8 : Memref sig .tc .vmem S8x2560 .f32) (harg8 : arg8.IsWhole) (arg9 : Memref sig .tc .vmem S8x2560 .f32) (harg9 : arg9.IsWhole) (arg10 : Memref sig .tc .vmem S8x2560 .f32) (harg10 : arg10.IsWhole) (arg11 : Memref sig .tc .vmem S8x2560 .f32) (harg11 : arg11.IsWhole) (arg12 : Memref sig .tc .vmem S8x2560 .f32) (harg12 : arg12.IsWhole) (arg13 : Memref sig .tc .vmem S8x2560 .f32) (harg13 : arg13.IsWhole) (arg14 : Memref sig .tc .vmem S1x256x1000 .f32) (harg14 : arg14.IsWhole) (arg15 : Memref sig .tc .vmem S6x256x256 .f32) (harg15 : arg15.IsWhole) (arg16 : Memref sig .tc .vmem S6x256x1 .f32) (harg16 : arg16.IsWhole) (arg17 : Memref sig .tc .vmem S3x256 .f32) (harg17 : arg17.IsWhole) (arg18 : Memref sig .tc .vmem S3x1 .f32) (harg18 : arg18.IsWhole) (arg19 : Memref sig .tc .vmem S4x256x256 .f32) (harg19 : arg19.IsWhole) (arg20 : Memref sig .tc .vmem S4x256x1 .f32) (harg20 : arg20.IsWhole) (arg21 : Memref sig .tc .vmem S1x256 .f32) (harg21 : arg21.IsWhole) (arg22 : Memref sig .tc .vmem S1x1 .f32) (harg22 : arg22.IsWhole) (arg23 : Memref sig .tc .vmem S6x256x256 .f32) (harg23 : arg23.IsWhole) (arg24 : Memref sig .tc .vmem S6x256x1 .f32) (harg24 : arg24.IsWhole) (arg25 : Memref sig .tc .vmem S4x256 .f32) (harg25 : arg25.IsWhole) (arg26 : Memref sig .tc .vmem S4x1 .f32) (harg26 : arg26.IsWhole) (arg27 : Memref sig .tc .vmem S1x1x1000 .f32) (harg27 : arg27.IsWhole) (arg28 : Memref sig .tc .vmem S1x4x1000 .f32) (harg28 : arg28.IsWhole) (arg29 : Memref sig .tc .vmem S1x4x1000 .f32) (harg29 : arg29.IsWhole) (arg30 : Memref sig .tc .vmem S1x1x1000 .f32) (harg30 : arg30.IsWhole)
    (x0 : Vec F S1x1x1000 .f32) (x1 : Vec F S1x1x1000 .f32) (x2 : Vec F S1x1x1000 .f32) (x3 : Vec F S1x1x1000 .f32) (x4 : Vec F S1x1x1000 .f32) (x5 : Vec F S7x1x1000 .f32) (x6 : Vec F S8x2560 .f32) (x7 : Vec F S8x2560 .f32) (x8 : Vec F S8x2560 .f32) (x9 : Vec F S8x2560 .f32) (x10 : Vec F S8x2560 .f32) (x11 : Vec F S8x2560 .f32) (x12 : Vec F S8x2560 .f32) (x13 : Vec F S1x256x1000 .f32) (x14 : Vec F S6x256x256 .f32) (x15 : Vec F S6x256x1 .f32) (x16 : Vec F S3x256 .f32) (x17 : Vec F S3x1 .f32) (x18 : Vec F S4x256x256 .f32) (x19 : Vec F S4x256x1 .f32) (x20 : Vec F S1x256 .f32) (x21 : Vec F S1x1 .f32) (x22 : Vec F S6x256x256 .f32) (x23 : Vec F S6x256x1 .f32) (x24 : Vec F S4x256 .f32) (x25 : Vec F S4x1 .f32) : Vec F S1x4x1000 .f32 :=
  VO0_28.read (Elt F) (VO0_28.writes (Elt F) VO0_28.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22 x23 x24 x25).2.2.1)

/-- The run's pieces for output 29 tile its block (1 store of `S1x1x1000`, checked by the kernel's evaluation: Lib/Ring.lean `Piece.tiledL`, linear in the pieces, through a loop's `@[irreducible]` trip theorem too), so they cover it. -/
theorem cover0_A_29 (c : Dev nD) (i : grid0.Coords) (arg1 : Memref sig .tc .vmem S1x1x1000 .f32) (harg1 : arg1.IsWhole) (arg2 : Memref sig .tc .vmem S1x1x1000 .f32) (harg2 : arg2.IsWhole) (arg3 : Memref sig .tc .vmem S1x1x1000 .f32) (harg3 : arg3.IsWhole) (arg4 : Memref sig .tc .vmem S1x1x1000 .f32) (harg4 : arg4.IsWhole) (arg5 : Memref sig .tc .vmem S1x1x1000 .f32) (harg5 : arg5.IsWhole) (arg6 : Memref sig .tc .vmem S7x1x1000 .f32) (harg6 : arg6.IsWhole) (arg7 : Memref sig .tc .vmem S8x2560 .f32) (harg7 : arg7.IsWhole) (arg8 : Memref sig .tc .vmem S8x2560 .f32) (harg8 : arg8.IsWhole) (arg9 : Memref sig .tc .vmem S8x2560 .f32) (harg9 : arg9.IsWhole) (arg10 : Memref sig .tc .vmem S8x2560 .f32) (harg10 : arg10.IsWhole) (arg11 : Memref sig .tc .vmem S8x2560 .f32) (harg11 : arg11.IsWhole) (arg12 : Memref sig .tc .vmem S8x2560 .f32) (harg12 : arg12.IsWhole) (arg13 : Memref sig .tc .vmem S8x2560 .f32) (harg13 : arg13.IsWhole) (arg14 : Memref sig .tc .vmem S1x256x1000 .f32) (harg14 : arg14.IsWhole) (arg15 : Memref sig .tc .vmem S6x256x256 .f32) (harg15 : arg15.IsWhole) (arg16 : Memref sig .tc .vmem S6x256x1 .f32) (harg16 : arg16.IsWhole) (arg17 : Memref sig .tc .vmem S3x256 .f32) (harg17 : arg17.IsWhole) (arg18 : Memref sig .tc .vmem S3x1 .f32) (harg18 : arg18.IsWhole) (arg19 : Memref sig .tc .vmem S4x256x256 .f32) (harg19 : arg19.IsWhole) (arg20 : Memref sig .tc .vmem S4x256x1 .f32) (harg20 : arg20.IsWhole) (arg21 : Memref sig .tc .vmem S1x256 .f32) (harg21 : arg21.IsWhole) (arg22 : Memref sig .tc .vmem S1x1 .f32) (harg22 : arg22.IsWhole) (arg23 : Memref sig .tc .vmem S6x256x256 .f32) (harg23 : arg23.IsWhole) (arg24 : Memref sig .tc .vmem S6x256x1 .f32) (harg24 : arg24.IsWhole) (arg25 : Memref sig .tc .vmem S4x256 .f32) (harg25 : arg25.IsWhole) (arg26 : Memref sig .tc .vmem S4x1 .f32) (harg26 : arg26.IsWhole) (arg27 : Memref sig .tc .vmem S1x1x1000 .f32) (harg27 : arg27.IsWhole) (arg28 : Memref sig .tc .vmem S1x4x1000 .f32) (harg28 : arg28.IsWhole) (arg29 : Memref sig .tc .vmem S1x4x1000 .f32) (harg29 : arg29.IsWhole) (arg30 : Memref sig .tc .vmem S1x1x1000 .f32) (harg30 : arg30.IsWhole)
    (x0 : Vec F S1x1x1000 .f32) (x1 : Vec F S1x1x1000 .f32) (x2 : Vec F S1x1x1000 .f32) (x3 : Vec F S1x1x1000 .f32) (x4 : Vec F S1x1x1000 .f32) (x5 : Vec F S7x1x1000 .f32) (x6 : Vec F S8x2560 .f32) (x7 : Vec F S8x2560 .f32) (x8 : Vec F S8x2560 .f32) (x9 : Vec F S8x2560 .f32) (x10 : Vec F S8x2560 .f32) (x11 : Vec F S8x2560 .f32) (x12 : Vec F S8x2560 .f32) (x13 : Vec F S1x256x1000 .f32) (x14 : Vec F S6x256x256 .f32) (x15 : Vec F S6x256x1 .f32) (x16 : Vec F S3x256 .f32) (x17 : Vec F S3x1 .f32) (x18 : Vec F S4x256x256 .f32) (x19 : Vec F S4x256x1 .f32) (x20 : Vec F S1x256 .f32) (x21 : Vec F S1x1 .f32) (x22 : Vec F S6x256x256 .f32) (x23 : Vec F S6x256x1 .f32) (x24 : Vec F S4x256 .f32) (x25 : Vec F S4x1 .f32) (y : S1x1x1000.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22 x23 x24 x25).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22 x23 x24 x25).2.2.2.1 S1x1x1000.size (by sl_kernel_rfl) y

/-- What the run leaves in output 29's staging buffer: its pieces read back over junk. -/
def out0_A_29 (c : Dev nD) (i : grid0.Coords) (arg1 : Memref sig .tc .vmem S1x1x1000 .f32) (harg1 : arg1.IsWhole) (arg2 : Memref sig .tc .vmem S1x1x1000 .f32) (harg2 : arg2.IsWhole) (arg3 : Memref sig .tc .vmem S1x1x1000 .f32) (harg3 : arg3.IsWhole) (arg4 : Memref sig .tc .vmem S1x1x1000 .f32) (harg4 : arg4.IsWhole) (arg5 : Memref sig .tc .vmem S1x1x1000 .f32) (harg5 : arg5.IsWhole) (arg6 : Memref sig .tc .vmem S7x1x1000 .f32) (harg6 : arg6.IsWhole) (arg7 : Memref sig .tc .vmem S8x2560 .f32) (harg7 : arg7.IsWhole) (arg8 : Memref sig .tc .vmem S8x2560 .f32) (harg8 : arg8.IsWhole) (arg9 : Memref sig .tc .vmem S8x2560 .f32) (harg9 : arg9.IsWhole) (arg10 : Memref sig .tc .vmem S8x2560 .f32) (harg10 : arg10.IsWhole) (arg11 : Memref sig .tc .vmem S8x2560 .f32) (harg11 : arg11.IsWhole) (arg12 : Memref sig .tc .vmem S8x2560 .f32) (harg12 : arg12.IsWhole) (arg13 : Memref sig .tc .vmem S8x2560 .f32) (harg13 : arg13.IsWhole) (arg14 : Memref sig .tc .vmem S1x256x1000 .f32) (harg14 : arg14.IsWhole) (arg15 : Memref sig .tc .vmem S6x256x256 .f32) (harg15 : arg15.IsWhole) (arg16 : Memref sig .tc .vmem S6x256x1 .f32) (harg16 : arg16.IsWhole) (arg17 : Memref sig .tc .vmem S3x256 .f32) (harg17 : arg17.IsWhole) (arg18 : Memref sig .tc .vmem S3x1 .f32) (harg18 : arg18.IsWhole) (arg19 : Memref sig .tc .vmem S4x256x256 .f32) (harg19 : arg19.IsWhole) (arg20 : Memref sig .tc .vmem S4x256x1 .f32) (harg20 : arg20.IsWhole) (arg21 : Memref sig .tc .vmem S1x256 .f32) (harg21 : arg21.IsWhole) (arg22 : Memref sig .tc .vmem S1x1 .f32) (harg22 : arg22.IsWhole) (arg23 : Memref sig .tc .vmem S6x256x256 .f32) (harg23 : arg23.IsWhole) (arg24 : Memref sig .tc .vmem S6x256x1 .f32) (harg24 : arg24.IsWhole) (arg25 : Memref sig .tc .vmem S4x256 .f32) (harg25 : arg25.IsWhole) (arg26 : Memref sig .tc .vmem S4x1 .f32) (harg26 : arg26.IsWhole) (arg27 : Memref sig .tc .vmem S1x1x1000 .f32) (harg27 : arg27.IsWhole) (arg28 : Memref sig .tc .vmem S1x4x1000 .f32) (harg28 : arg28.IsWhole) (arg29 : Memref sig .tc .vmem S1x4x1000 .f32) (harg29 : arg29.IsWhole) (arg30 : Memref sig .tc .vmem S1x1x1000 .f32) (harg30 : arg30.IsWhole)
    (x0 : Vec F S1x1x1000 .f32) (x1 : Vec F S1x1x1000 .f32) (x2 : Vec F S1x1x1000 .f32) (x3 : Vec F S1x1x1000 .f32) (x4 : Vec F S1x1x1000 .f32) (x5 : Vec F S7x1x1000 .f32) (x6 : Vec F S8x2560 .f32) (x7 : Vec F S8x2560 .f32) (x8 : Vec F S8x2560 .f32) (x9 : Vec F S8x2560 .f32) (x10 : Vec F S8x2560 .f32) (x11 : Vec F S8x2560 .f32) (x12 : Vec F S8x2560 .f32) (x13 : Vec F S1x256x1000 .f32) (x14 : Vec F S6x256x256 .f32) (x15 : Vec F S6x256x1 .f32) (x16 : Vec F S3x256 .f32) (x17 : Vec F S3x1 .f32) (x18 : Vec F S4x256x256 .f32) (x19 : Vec F S4x256x1 .f32) (x20 : Vec F S1x256 .f32) (x21 : Vec F S1x1 .f32) (x22 : Vec F S6x256x256 .f32) (x23 : Vec F S6x256x1 .f32) (x24 : Vec F S4x256 .f32) (x25 : Vec F S4x1 .f32) : Vec F S1x1x1000 .f32 :=
  VO0_29.read (Elt F) (VO0_29.writes (Elt F) VO0_29.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22 x23 x24 x25).2.2.2.1)

/-! ## What the outputs hold after each point -/

/-- What the outputs' staging buffers hold after the body at point `t` (as a tuple, in window order): the run's contents at
    the point's memrefs and input blocks. -/
def outsAt0 (c : Dev nD) (t : Fin cfg0.N) : Vec F S1x1x1000 .f32 × Vec F S1x4x1000 .f32 × Vec F S1x4x1000 .f32 × Vec F S1x1x1000 .f32 :=
  (out0_A_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t), out0_A_27 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t), out0_A_28 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t), out0_A_29 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => (outsAt0 m c t).1
    | ⟨27, _⟩ => (outsAt0 m c t).2.1
    | ⟨28, _⟩ => (outsAt0 m c t).2.2.1
    | ⟨29, _⟩ => (outsAt0 m c t).2.2.2
    | ⟨_ + 30, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = (outsAt0 m c t).1 := by dsimp only [dats]
theorem after0_27 (c : Dev nD) (t : Fin cfg0.N) : (dats m 0 c).after 27 t = (outsAt0 m c t).2.1 := by dsimp only [dats]
theorem after0_28 (c : Dev nD) (t : Fin cfg0.N) : (dats m 0 c).after 28 t = (outsAt0 m c t).2.2.1 := by dsimp only [dats]
theorem after0_29 (c : Dev nD) (t : Fin cfg0.N) : (dats m 0 c).after 29 t = (outsAt0 m c t).2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t))

set_option maxHeartbeats 2800000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29]
  unfold outsAt0
  unfold out0_A_26 out0_A_27 out0_A_28 out0_A_29; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexists _; iexact H26
  isplitl [H27]; · iexists _; iexact H27
  isplitl [H28]; · iexists _; iexact H28
  isplitl [H29]; · iexists _; iexact H29
  iintro ⟨H0, H1, H2, H3, H4, H5, H6, H7, H8, H9, H10, H11, H12, H13, H14, H15, H16, H17, H18, H19, H20, H21, H22, H23, H24, H25, ⟨%e26, H26⟩, ⟨%e27, H27⟩, ⟨%e28, H28⟩, ⟨%e29, H29⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]
  · unfold owns; iexists _; isplitr
    swap; · iexact H26
    ipureintro; exact View.read_writes_of_cover _ _ _ _ _ (cover0_A_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H27]
  · unfold owns; iexists _; isplitr
    swap; · iexact H27
    ipureintro; exact View.read_writes_of_cover _ _ _ _ _ (cover0_A_27 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H28]
  · unfold owns; iexists _; isplitr
    swap; · iexact H28
    ipureintro; exact View.read_writes_of_cover _ _ _ _ _ (cover0_A_28 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H29
  ipureintro; exact View.read_writes_of_cover _ _ _ _ _ (cover0_A_29 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

end Cert.KernelIdeal.Gen

end
-- ==== Proof.Trip.lean ====
/- One trip of the kernel's loop is a walk over the 128 rows of its tile, the same small step at each row. -/
module

public import proofs.«01_k».proof.Proof.Gen.KernelIdeal.Loops

@[expose] public section

set_option maxRecDepth 16384

noncomputable section

namespace Cert.Peak

open Idealize.ShloMosaic Idealize.ShloMosaic.TcCoe Cert.KernelIdeal Cert.KernelIdeal.Gen
open Cert.KernelIdeal.Facts

variable {F : FTy → Type} [FloatOps F]

/-- A column of one entry in each of eight rows is a block of the tile. -/
theorem slices_col {j : Nat} (h : j < 128) : S8x128.Slices ![0, j] S8x1 := by
  refine ⟨rfl, fun a => ?_⟩
  match a with
  | ⟨0, _⟩ => exact Nat.le_refl 8
  | ⟨1, _⟩ => exact h

/-- Column `j` of a tile. -/
def colOf (T : FVec F S8x128 .f32) {j : Nat} (h : j < 128) : FVec F S8x1 .f32 :=
  extractStridedSlice S8x1 ![0, j] T (slices_col h)

/-- A column against the block's 1000 columns. -/
def wide (v : FVec F S8x1 .f32) : FVec F S8x1000 .f32 := broadcastTo S8x1000 v broadcasts_S8x1_S8x1000

/-- The block's row against the eight rows. -/
def tall (v : FVec F S1x1000 .f32) : FVec F S8x1000 .f32 := broadcastTo S8x1000 v broadcasts_S1x1000_S8x1000

/-- The overlap of eight rows' boxes with the block's boxes. -/
def overlap (v1 v3 v5 v7 : FVec F S1x1000 .f32) (x1 y1 x2 y2 : FVec F S8x1 .f32) : FVec F S8x1000 .f32 :=
  mulf (maximumf (subf (minimumf (wide x2) (tall v5)) (maximumf (wide x1) (tall v1))) (broadcast S8x1000 (Scalar.ofBits .f32 0x00000000#32)))
    (maximumf (subf (minimumf (wide y2) (tall v7)) (maximumf (wide y1) (tall v3))) (broadcast S8x1000 (Scalar.ofBits .f32 0x00000000#32)))

/-- The overlap over the union. -/
def ratio (v9 : FVec F S1x1000 .f32) (ar : FVec F S8x1 .f32) (o : FVec F S8x1000 .f32) : FVec F S8x1000 .f32 :=
  divf o (subf (addf (wide ar) (tall v9)) o)

/-- The smallest key so far against eight further rows: a row's key is `u` where the overlap reaches the threshold, and `b` where not. -/
def stepKey (t : BitVec 32) (v9 : FVec F S1x1000 .f32) (acc : FVec F S8x1000 .f32) (ar u b : FVec F S8x1 .f32) (o : FVec F S8x1000 .f32) :
    FVec F S8x1000 .f32 :=
  minimumf acc (select (cmpf .oge (ratio v9 ar o) (broadcast S8x1000 (Scalar.ofBits .f32 t)))
    (wide (shapeCast S8x1 u shapeCasts_S8x1_S8x1)) (wide (shapeCast S8x1 b shapeCasts_S8x1_S8x1)))

/-- The smallest key over the first `n` columns of the tiles. -/
def walk (t : BitVec 32) (v1 v3 v5 v7 v9 : FVec F S1x1000 .f32) (T1 T2 T3 T4 T5 T6 T7 : FVec F S8x128 .f32) (acc : FVec F S8x1000 .f32) (n : Nat) :
    n ≤ 128 → FVec F S8x1000 .f32 :=
  Nat.rec (motive := fun n => n ≤ 128 → FVec F S8x1000 .f32) (fun _ => acc)
    (fun j ih h => stepKey t v9 (ih (Nat.le_of_succ_le h)) (colOf T5 h) (colOf T6 h) (colOf T7 h)
      (overlap v1 v3 v5 v7 (colOf T1 h) (colOf T2 h) (colOf T3 h) (colOf T4 h))) n

/-- The tile of a table that trip `k` reads: its columns `128 * k` to `128 * k + 127`. -/
def tile (arg : Memref sig .tc .vmem S8x2560 .f32) (X : BufTy.Contents (Elt F) arg.view.ty) (k : Fin k0_t1_loop.trips) : FVec F S8x128 .f32 :=
  shapeCast S8x128 (View.readAt (Elt F) arg.view (Rect.unit (s := S8x2560) (k0_off1 k) S8x128.size (k0_off1_inb k)).toLoadRect X)
    shapeCasts_S8x128_S8x128

/-- A trip leaves, of its three running minima, the walk over its tile at each of the three thresholds. -/
theorem trip_eq (𝒱 : Variants) (c : Dev nD) (bd : Option 𝒱.V) (i : grid0.Coords) (arg1 : Memref sig .tc .vmem S1x1x1000 .f32) (harg1 : arg1.IsWhole) (arg2 : Memref sig .tc .vmem S1x1x1000 .f32) (harg2 : arg2.IsWhole) (arg3 : Memref sig .tc .vmem S1x1x1000 .f32) (harg3 : arg3.IsWhole) (arg4 : Memref sig .tc .vmem S1x1x1000 .f32) (harg4 : arg4.IsWhole) (arg5 : Memref sig .tc .vmem S1x1x1000 .f32) (harg5 : arg5.IsWhole) (arg6 : Memref sig .tc .vmem S7x1x1000 .f32) (harg6 : arg6.IsWhole) (arg7 : Memref sig .tc .vmem S8x2560 .f32) (harg7 : arg7.IsWhole) (arg8 : Memref sig .tc .vmem S8x2560 .f32) (harg8 : arg8.IsWhole) (arg9 : Memref sig .tc .vmem S8x2560 .f32) (harg9 : arg9.IsWhole) (arg10 : Memref sig .tc .vmem S8x2560 .f32) (harg10 : arg10.IsWhole) (arg11 : Memref sig .tc .vmem S8x2560 .f32) (harg11 : arg11.IsWhole) (arg12 : Memref sig .tc .vmem S8x2560 .f32) (harg12 : arg12.IsWhole) (arg13 : Memref sig .tc .vmem S8x2560 .f32) (harg13 : arg13.IsWhole) (arg14 : Memref sig .tc .vmem S1x256x1000 .f32) (harg14 : arg14.IsWhole) (arg15 : Memref sig .tc .vmem S6x256x256 .f32) (harg15 : arg15.IsWhole) (arg16 : Memref sig .tc .vmem S6x256x1 .f32) (harg16 : arg16.IsWhole) (arg17 : Memref sig .tc .vmem S3x256 .f32) (harg17 : arg17.IsWhole) (arg18 : Memref sig .tc .vmem S3x1 .f32) (harg18 : arg18.IsWhole) (arg19 : Memref sig .tc .vmem S4x256x256 .f32) (harg19 : arg19.IsWhole) (arg20 : Memref sig .tc .vmem S4x256x1 .f32) (harg20 : arg20.IsWhole) (arg21 : Memref sig .tc .vmem S1x256 .f32) (harg21 : arg21.IsWhole) (arg22 : Memref sig .tc .vmem S1x1 .f32) (harg22 : arg22.IsWhole) (arg23 : Memref sig .tc .vmem S6x256x256 .f32) (harg23 : arg23.IsWhole) (arg24 : Memref sig .tc .vmem S6x256x1 .f32) (harg24 : arg24.IsWhole) (arg25 : Memref sig .tc .vmem S4x256 .f32) (harg25 : arg25.IsWhole) (arg26 : Memref sig .tc .vmem S4x1 .f32) (harg26 : arg26.IsWhole) (arg27 : Memref sig .tc .vmem S1x1x1000 .f32) (harg27 : arg27.IsWhole) (arg28 : Memref sig .tc .vmem S1x4x1000 .f32) (harg28 : arg28.IsWhole) (arg29 : Memref sig .tc .vmem S1x4x1000 .f32) (harg29 : arg29.IsWhole) (arg30 : Memref sig .tc .vmem S1x1x1000 .f32) (harg30 : arg30.IsWhole) (v1 : FVec F S1x1000 .f32) (v3 : FVec F S1x1000 .f32) (v5 : FVec F S1x1000 .f32) (v7 : FVec F S1x1000 .f32) (v9 : FVec F S1x1000 .f32) (v19 : FVec F S1x1000 .f32) (v24 : FVec F S1x1000 .f32) (v27 : FVec F S1x1000 .f32) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (k : Fin k0_t1_loop.trips) (acc : FVec F S8x1000 .f32 × FVec F S8x1000 .f32 × FVec F S8x1000 .f32) :
    tripR_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v1 v3 v5 v7 v9 v19 v24 v27 X_arg7 X_arg8 X_arg9 X_arg10 X_arg11 X_arg12 X_arg13 k acc =
      (walk 0x3ECCCCCD#32 v1 v3 v5 v7 v9 (tile arg7 X_arg7 k) (tile arg8 X_arg8 k) (tile arg9 X_arg9 k) (tile arg10 X_arg10 k) (tile arg11 X_arg11 k) (tile arg12 X_arg12 k) (tile arg13 X_arg13 k) acc.1 128 (Nat.le_refl 128),
       walk 0x3F19999A#32 v1 v3 v5 v7 v9 (tile arg7 X_arg7 k) (tile arg8 X_arg8 k) (tile arg9 X_arg9 k) (tile arg10 X_arg10 k) (tile arg11 X_arg11 k) (tile arg12 X_arg12 k) (tile arg13 X_arg13 k) acc.2.1 128 (Nat.le_refl 128),
       walk 0x3F4CCCCD#32 v1 v3 v5 v7 v9 (tile arg7 X_arg7 k) (tile arg8 X_arg8 k) (tile arg9 X_arg9 k) (tile arg10 X_arg10 k) (tile arg11 X_arg11 k) (tile arg12 X_arg12 k) (tile arg13 X_arg13 k) acc.2.2 128 (Nat.le_refl 128)) := by
  unfold tripR_k0_t1 trip_k0_t1
  dsimp only
  sl_kernel_rfl

end Cert.Peak

end
-- ==== Proof.Key.lean ====
/- The walk read at an entry: over the extended reals, when is the smallest key of a tile below a given number. -/
module

public import proofs.«01_k».proof.Proof.Trip
public import Idealize.ShloMosaic.Lib.ValueIdx
public import Idealize.ShloMosaic.Lib.Pipeline.Value
public import Idealize.ShloMosaic.PureOps.Ideal
public import Idealize.ShloMosaic.PureOps.Ideal.Laws

@[expose] public section

set_option maxRecDepth 16384

noncomputable section

namespace Cert.Peak

open Idealize.ShloMosaic Idealize.ShloMosaic.TcCoe Idealize.ShloMosaic.ValueIdx Cert.KernelIdeal Cert.KernelIdeal.Gen
open Cert.KernelIdeal.Facts

/-- A box: its two corners and its area. -/
structure Box where
  /-- the first corner's first coordinate -/
  x1 : EReal
  /-- the first corner's second coordinate -/
  y1 : EReal
  /-- the second corner's first coordinate -/
  x2 : EReal
  /-- the second corner's second coordinate -/
  y2 : EReal
  /-- the area -/
  ar : EReal

/-- The overlap of two boxes. -/
def Box.inter (r p : Box) : EReal :=
  max (min r.x2 p.x2 - max r.x1 p.x1) 0 * max (min r.y2 p.y2 - max r.y1 p.y1) 0

/-- The overlap of two boxes over their union. -/
def Box.iou (r p : Box) : EReal := Ideal.div (r.inter p) (r.ar + p.ar - r.inter p)

/-- A threshold's number. -/
abbrev thr (t : BitVec 32) : EReal := Ideal.ofBits .f32 t

/-- The key of a row against a column: `u` where their overlap reaches the threshold, `b` where not. -/
def keyOf (t : BitVec 32) (r p : Box) (u b : EReal) : EReal := if thr t ≤ r.iou p then u else b

/-- A column of a tile, at its row. -/
theorem colOf_apply (T : FVec Ideal S8x128 .f32) {j : Nat} (h : j < 128) (a : Fin 8) (z : Fin 1) :
    colOf T h (ix2 a z) = T (ix2 a ⟨j, h⟩) := by
  refine extractStridedSlice_apply _ _ _ _ _ fun d => ?_
  match d with
  | ⟨0, _⟩ => exact (Nat.zero_add _).symm
  | ⟨1, _⟩ => show j = j + z.val; omega

/-- A column stretched over the block, at an entry. -/
theorem wide_apply (v : FVec Ideal S8x1 .f32) (a : Fin 8) (q : Fin 1000) : wide v (ix2 a q) = v (ix2 a 0) := by
  refine broadcastTo_apply _ _ _ _ fun d => ?_
  match d with
  | ⟨0, _⟩ => rfl
  | ⟨1, _⟩ => rfl

/-- The block's row stretched over the eight rows, at an entry. -/
theorem tall_apply (v : FVec Ideal S1x1000 .f32) (a : Fin 8) (q : Fin 1000) : tall v (ix2 a q) = v (ix2 0 q) := by
  refine broadcastTo_apply _ _ _ _ fun d => ?_
  match d with
  | ⟨0, _⟩ => rfl
  | ⟨1, _⟩ => rfl

/-- The box of column `q` of a block. -/
def boxAt (v1 v3 v5 v7 v9 : FVec Ideal S1x1000 .f32) (q : Fin 1000) : Box :=
  ⟨v1 (ix2 0 q), v3 (ix2 0 q), v5 (ix2 0 q), v7 (ix2 0 q), v9 (ix2 0 q)⟩

/-- The box in a tile's row `a`, column `j`. -/
def boxIn (T1 T2 T3 T4 T5 : FVec Ideal S8x128 .f32) (a : Fin 8) (j : Fin 128) : Box :=
  ⟨T1 (ix2 a j), T2 (ix2 a j), T3 (ix2 a j), T4 (ix2 a j), T5 (ix2 a j)⟩

/-- One step at an entry: the smaller of what was there and the row's key. -/
theorem stepKey_apply (t : BitVec 32) (v1 v3 v5 v7 v9 : FVec Ideal S1x1000 .f32) (T1 T2 T3 T4 T5 T6 T7 : FVec Ideal S8x128 .f32)
    (acc : FVec Ideal S8x1000 .f32) {j : Nat} (h : j < 128) (a : Fin 8) (q : Fin 1000) :
    stepKey t v9 acc (colOf T5 h) (colOf T6 h) (colOf T7 h) (overlap v1 v3 v5 v7 (colOf T1 h) (colOf T2 h) (colOf T3 h) (colOf T4 h)) (ix2 a q)
      = min (acc (ix2 a q)) (keyOf t (boxIn T1 T2 T3 T4 T5 a ⟨j, h⟩) (boxAt v1 v3 v5 v7 v9 q) (T6 (ix2 a ⟨j, h⟩)) (T7 (ix2 a ⟨j, h⟩))) := by
  have hz : (Scalar.ofBits .f32 0x00000000#32 : Ideal .f32) = (0 : EReal) := Ideal.ofBits_zero_f32
  have ho : overlap v1 v3 v5 v7 (colOf T1 h) (colOf T2 h) (colOf T3 h) (colOf T4 h) (ix2 a q)
      = (boxIn T1 T2 T3 T4 T5 a ⟨j, h⟩).inter (boxAt v1 v3 v5 v7 v9 q) := by
    unfold overlap
    rw [mulf_apply, maximumf_apply, maximumf_apply, subf_apply, subf_apply, minimumf_apply, minimumf_apply, maximumf_apply, maximumf_apply]
    simp only [wide_apply, tall_apply, colOf_apply, broadcast_apply, hz]
    rfl
  have hr : ratio v9 (colOf T5 h) (overlap v1 v3 v5 v7 (colOf T1 h) (colOf T2 h) (colOf T3 h) (colOf T4 h)) (ix2 a q)
      = (boxIn T1 T2 T3 T4 T5 a ⟨j, h⟩).iou (boxAt v1 v3 v5 v7 v9 q) := by
    unfold ratio
    rw [divf_apply, subf_apply, addf_apply, ho, wide_apply, tall_apply, colOf_apply]
    rfl
  unfold stepKey
  rw [minimumf_apply, select_apply, cmpf_apply, hr, shapeCast_self, shapeCast_self, wide_apply, wide_apply, colOf_apply, colOf_apply,
    broadcast_apply]
  refine congrArg _ ?_
  unfold keyOf Scalar.select
  show (if Ideal.cmp .oge _ _ = 1#1 then _ else _) = _
  unfold Ideal.cmp
  by_cases hc : thr t ≤ (boxIn T1 T2 T3 T4 T5 a ⟨j, h⟩).iou (boxAt v1 v3 v5 v7 v9 q)
  · rw [if_pos hc]
    exact if_pos (congrArg BitVec.ofBool (decide_eq_true hc))
  · rw [if_neg hc]
    exact if_neg (fun e => absurd ((congrArg BitVec.ofBool (decide_eq_false hc)).symm.trans e) (by decide))

/-- The walk over the first `n` columns is below a number when the start is, or the key of one of those columns is. -/
theorem walk_lt (t : BitVec 32) (v1 v3 v5 v7 v9 : FVec Ideal S1x1000 .f32) (T1 T2 T3 T4 T5 T6 T7 : FVec Ideal S8x128 .f32)
    (acc : FVec Ideal S8x1000 .f32) (a : Fin 8) (q : Fin 1000) (x : EReal) (n : Nat) (hn : n ≤ 128) :
    walk t v1 v3 v5 v7 v9 T1 T2 T3 T4 T5 T6 T7 acc n hn (ix2 a q) < x ↔
      acc (ix2 a q) < x ∨ ∃ j : Fin 128, j.val < n ∧
        keyOf t (boxIn T1 T2 T3 T4 T5 a j) (boxAt v1 v3 v5 v7 v9 q) (T6 (ix2 a j)) (T7 (ix2 a j)) < x := by
  induction n with
  | zero =>
    constructor
    · exact Or.inl
    · rintro (h | ⟨j, hj, _⟩)
      · exact h
      · exact absurd hj (Nat.not_lt_zero _)
  | succ n ih =>
    have e : walk t v1 v3 v5 v7 v9 T1 T2 T3 T4 T5 T6 T7 acc (n + 1) hn (ix2 a q) = _ :=
      stepKey_apply t v1 v3 v5 v7 v9 T1 T2 T3 T4 T5 T6 T7 (walk t v1 v3 v5 v7 v9 T1 T2 T3 T4 T5 T6 T7 acc n (Nat.le_of_succ_le hn)) hn a q
    rw [e, min_lt_iff, ih, or_assoc]
    refine or_congr Iff.rfl ⟨?_, ?_⟩
    · rintro (⟨j, hj, h⟩ | h)
      · exact ⟨j, Nat.lt_succ_of_lt hj, h⟩
      · exact ⟨⟨n, hn⟩, Nat.lt_succ_self n, h⟩
    · rintro ⟨j, hj, h⟩
      rcases Nat.lt_succ_iff_lt_or_eq.1 hj with h' | h'
      · exact Or.inl ⟨j, h', h⟩
      · obtain rfl : j = ⟨n, hn⟩ := Fin.ext h'
        exact Or.inr h

end Cert.Peak

end
-- ==== Proof.Loop.lean ====
/- The whole loop at an entry: when is the smallest key over all rows below a given number. -/
module

public import proofs.«01_k».proof.Proof.Key

@[expose] public section

set_option maxRecDepth 16384

noncomputable section

namespace Cert.Peak

open Idealize.ShloMosaic Idealize.ShloMosaic.TcCoe Idealize.ShloMosaic.ValueIdx Cert.KernelIdeal Cert.KernelIdeal.Gen
open Cert.KernelIdeal.Facts

/-- The loop has twenty trips. -/
theorem trips_eq : k0_t1_loop.trips = 20 := by decide +kernel

/-- Trip `k` starts at column `128 * k`. -/
theorem off_eq : ∀ k : Fin k0_t1_loop.trips, k0_off1 k = ![0, 128 * k.val] := by decide +kernel

/-- Column `j` of trip `k`'s tile. -/
def tabCol (k : Fin k0_t1_loop.trips) (j : Fin 128) : Fin 2560 :=
  ⟨128 * k.val + j.val, by have := k.isLt; have := trips_eq; omega⟩

/-- A tile's entry is its table's. -/
theorem tile_apply (arg : Memref sig .tc .vmem S8x2560 .f32) (X : BufTy.Contents (Elt Ideal) arg.view.ty) (k : Fin k0_t1_loop.trips)
    (a : Fin 8) (j : Fin 128) : tile (F := Ideal) arg X k (ix2 a j) = arg.view.read (Elt Ideal) X (ix2 a (tabCol k j)) := by
  unfold tile
  refine (congrFun (shapeCast_self _ _) _).trans ?_
  refine congrArg (arg.view.read (Elt Ideal) X) (funext fun d => Fin.ext ?_)
  match d with
  | ⟨0, _⟩ =>
    show (k0_off1 k) 0 + 1 * a.val = a.val
    rw [off_eq]; show 0 + 1 * a.val = a.val; omega
  | ⟨1, _⟩ =>
    show (k0_off1 k) 1 + 1 * j.val = 128 * k.val + j.val
    rw [off_eq]; show 128 * k.val + 1 * j.val = _; omega

/-- The box in row `a`, column `l` of the tables. -/
def boxTab (R1 R2 R3 R4 R5 : Vec Ideal S8x2560 .f32) (a : Fin 8) (l : Fin 2560) : Box :=
  ⟨R1 (ix2 a l), R2 (ix2 a l), R3 (ix2 a l), R4 (ix2 a l), R5 (ix2 a l)⟩

/-- One trip at an entry, over the tables. -/
theorem walk_tile_lt (t : BitVec 32) (v1 v3 v5 v7 v9 : FVec Ideal S1x1000 .f32)
    (g1 g2 g3 g4 g5 g6 g7 : Memref sig .tc .vmem S8x2560 .f32)
    (X1 : BufTy.Contents (Elt Ideal) g1.view.ty) (X2 : BufTy.Contents (Elt Ideal) g2.view.ty) (X3 : BufTy.Contents (Elt Ideal) g3.view.ty)
    (X4 : BufTy.Contents (Elt Ideal) g4.view.ty) (X5 : BufTy.Contents (Elt Ideal) g5.view.ty) (X6 : BufTy.Contents (Elt Ideal) g6.view.ty)
    (X7 : BufTy.Contents (Elt Ideal) g7.view.ty) (k : Fin k0_t1_loop.trips) (acc : FVec Ideal S8x1000 .f32) (a : Fin 8) (q : Fin 1000) (x : EReal)
    (P : Prop)
    (hacc : acc (ix2 a q) < x ↔ P ∨ ∃ l : Fin 2560, l.val < 128 * k.val ∧
      keyOf t (boxTab (g1.view.read (Elt Ideal) X1) (g2.view.read (Elt Ideal) X2) (g3.view.read (Elt Ideal) X3) (g4.view.read (Elt Ideal) X4) (g5.view.read (Elt Ideal) X5) a l)
        (boxAt v1 v3 v5 v7 v9 q) (g6.view.read (Elt Ideal) X6 (ix2 a l)) (g7.view.read (Elt Ideal) X7 (ix2 a l)) < x) :
    walk t v1 v3 v5 v7 v9 (tile g1 X1 k) (tile g2 X2 k) (tile g3 X3 k) (tile g4 X4 k) (tile g5 X5 k) (tile g6 X6 k) (tile g7 X7 k) acc 128
        (Nat.le_refl 128) (ix2 a q) < x ↔ P ∨ ∃ l : Fin 2560, l.val < 128 * (k.val + 1) ∧
      keyOf t (boxTab (g1.view.read (Elt Ideal) X1) (g2.view.read (Elt Ideal) X2) (g3.view.read (Elt Ideal) X3) (g4.view.read (Elt Ideal) X4) (g5.view.read (Elt Ideal) X5) a l)
        (boxAt v1 v3 v5 v7 v9 q) (g6.view.read (Elt Ideal) X6 (ix2 a l)) (g7.view.read (Elt Ideal) X7 (ix2 a l)) < x := by
  rw [walk_lt, hacc, or_assoc]
  have hb : ∀ j : Fin 128, boxIn (tile g1 X1 k) (tile g2 X2 k) (tile g3 X3 k) (tile g4 X4 k) (tile g5 X5 k) a j
      = boxTab (g1.view.read (Elt Ideal) X1) (g2.view.read (Elt Ideal) X2) (g3.view.read (Elt Ideal) X3) (g4.view.read (Elt Ideal) X4) (g5.view.read (Elt Ideal) X5) a (tabCol k j) := by
    intro j; unfold boxIn boxTab; simp only [tile_apply]
  refine or_congr Iff.rfl ⟨?_, ?_⟩
  · rintro (⟨l, hl, h⟩ | ⟨j, _, h⟩)
    · exact ⟨l, by omega, h⟩
    · rw [hb, tile_apply, tile_apply] at h
      exact ⟨tabCol k j, by show 128 * k.val + j.val < _; have := j.isLt; omega, h⟩
  · rintro ⟨l, hl, h⟩
    by_cases hl' : l.val < 128 * k.val
    · exact Or.inl ⟨l, hl', h⟩
    · refine Or.inr ⟨⟨l.val - 128 * k.val, by omega⟩, by show l.val - 128 * k.val < 128; omega, ?_⟩
      rw [hb, tile_apply, tile_apply]
      have e : tabCol k ⟨l.val - 128 * k.val, by omega⟩ = l := Fin.ext (by show 128 * k.val + (l.val - 128 * k.val) = l.val; omega)
      rw [e]; exact h

/-- After `n` trips each of the three minima is below a number when its start is, or when the key of one of the rows passed is. -/
theorem loop_lt (𝒱 : Variants) (c : Dev nD) (bd : Option 𝒱.V) (i : grid0.Coords) (arg1 : Memref sig .tc .vmem S1x1x1000 .f32) (harg1 : arg1.IsWhole) (arg2 : Memref sig .tc .vmem S1x1x1000 .f32) (harg2 : arg2.IsWhole) (arg3 : Memref sig .tc .vmem S1x1x1000 .f32) (harg3 : arg3.IsWhole) (arg4 : Memref sig .tc .vmem S1x1x1000 .f32) (harg4 : arg4.IsWhole) (arg5 : Memref sig .tc .vmem S1x1x1000 .f32) (harg5 : arg5.IsWhole) (arg6 : Memref sig .tc .vmem S7x1x1000 .f32) (harg6 : arg6.IsWhole) (arg7 : Memref sig .tc .vmem S8x2560 .f32) (harg7 : arg7.IsWhole) (arg8 : Memref sig .tc .vmem S8x2560 .f32) (harg8 : arg8.IsWhole) (arg9 : Memref sig .tc .vmem S8x2560 .f32) (harg9 : arg9.IsWhole) (arg10 : Memref sig .tc .vmem S8x2560 .f32) (harg10 : arg10.IsWhole) (arg11 : Memref sig .tc .vmem S8x2560 .f32) (harg11 : arg11.IsWhole) (arg12 : Memref sig .tc .vmem S8x2560 .f32) (harg12 : arg12.IsWhole) (arg13 : Memref sig .tc .vmem S8x2560 .f32) (harg13 : arg13.IsWhole) (arg14 : Memref sig .tc .vmem S1x256x1000 .f32) (harg14 : arg14.IsWhole) (arg15 : Memref sig .tc .vmem S6x256x256 .f32) (harg15 : arg15.IsWhole) (arg16 : Memref sig .tc .vmem S6x256x1 .f32) (harg16 : arg16.IsWhole) (arg17 : Memref sig .tc .vmem S3x256 .f32) (harg17 : arg17.IsWhole) (arg18 : Memref sig .tc .vmem S3x1 .f32) (harg18 : arg18.IsWhole) (arg19 : Memref sig .tc .vmem S4x256x256 .f32) (harg19 : arg19.IsWhole) (arg20 : Memref sig .tc .vmem S4x256x1 .f32) (harg20 : arg20.IsWhole) (arg21 : Memref sig .tc .vmem S1x256 .f32) (harg21 : arg21.IsWhole) (arg22 : Memref sig .tc .vmem S1x1 .f32) (harg22 : arg22.IsWhole) (arg23 : Memref sig .tc .vmem S6x256x256 .f32) (harg23 : arg23.IsWhole) (arg24 : Memref sig .tc .vmem S6x256x1 .f32) (harg24 : arg24.IsWhole) (arg25 : Memref sig .tc .vmem S4x256 .f32) (harg25 : arg25.IsWhole) (arg26 : Memref sig .tc .vmem S4x1 .f32) (harg26 : arg26.IsWhole) (arg27 : Memref sig .tc .vmem S1x1x1000 .f32) (harg27 : arg27.IsWhole) (arg28 : Memref sig .tc .vmem S1x4x1000 .f32) (harg28 : arg28.IsWhole) (arg29 : Memref sig .tc .vmem S1x4x1000 .f32) (harg29 : arg29.IsWhole) (arg30 : Memref sig .tc .vmem S1x1x1000 .f32) (harg30 : arg30.IsWhole) (v1 : FVec Ideal S1x1000 .f32) (v3 : FVec Ideal S1x1000 .f32) (v5 : FVec Ideal S1x1000 .f32) (v7 : FVec Ideal S1x1000 .f32) (v9 : FVec Ideal S1x1000 .f32) (v19 : FVec Ideal S1x1000 .f32) (v24 : FVec Ideal S1x1000 .f32) (v27 : FVec Ideal S1x1000 .f32) (X_arg7 : BufTy.Contents (Elt Ideal) arg7.view.ty) (X_arg8 : BufTy.Contents (Elt Ideal) arg8.view.ty) (X_arg9 : BufTy.Contents (Elt Ideal) arg9.view.ty) (X_arg10 : BufTy.Contents (Elt Ideal) arg10.view.ty) (X_arg11 : BufTy.Contents (Elt Ideal) arg11.view.ty) (X_arg12 : BufTy.Contents (Elt Ideal) arg12.view.ty) (X_arg13 : BufTy.Contents (Elt Ideal) arg13.view.ty) (init : FVec Ideal S8x1000 .f32 × FVec Ideal S8x1000 .f32 × FVec Ideal S8x1000 .f32)
    (a : Fin 8) (q : Fin 1000) (x : EReal) (n : Nat) (hn : n ≤ k0_t1_loop.trips) :
    ((st_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v1 v3 v5 v7 v9 v19 v24 v27 X_arg7 X_arg8 X_arg9 X_arg10 X_arg11 X_arg12 X_arg13 init n).1 (ix2 a q) < x ↔ init.1 (ix2 a q) < x ∨ ∃ l : Fin 2560, l.val < 128 * n ∧
        keyOf 0x3ECCCCCD#32 (boxTab (arg7.view.read (Elt Ideal) X_arg7) (arg8.view.read (Elt Ideal) X_arg8) (arg9.view.read (Elt Ideal) X_arg9) (arg10.view.read (Elt Ideal) X_arg10) (arg11.view.read (Elt Ideal) X_arg11) a l) (boxAt v1 v3 v5 v7 v9 q) (arg12.view.read (Elt Ideal) X_arg12 (ix2 a l)) (arg13.view.read (Elt Ideal) X_arg13 (ix2 a l)) < x)
    ∧ ((st_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v1 v3 v5 v7 v9 v19 v24 v27 X_arg7 X_arg8 X_arg9 X_arg10 X_arg11 X_arg12 X_arg13 init n).2.1 (ix2 a q) < x ↔ init.2.1 (ix2 a q) < x ∨ ∃ l : Fin 2560, l.val < 128 * n ∧
        keyOf 0x3F19999A#32 (boxTab (arg7.view.read (Elt Ideal) X_arg7) (arg8.view.read (Elt Ideal) X_arg8) (arg9.view.read (Elt Ideal) X_arg9) (arg10.view.read (Elt Ideal) X_arg10) (arg11.view.read (Elt Ideal) X_arg11) a l) (boxAt v1 v3 v5 v7 v9 q) (arg12.view.read (Elt Ideal) X_arg12 (ix2 a l)) (arg13.view.read (Elt Ideal) X_arg13 (ix2 a l)) < x)
    ∧ ((st_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v1 v3 v5 v7 v9 v19 v24 v27 X_arg7 X_arg8 X_arg9 X_arg10 X_arg11 X_arg12 X_arg13 init n).2.2 (ix2 a q) < x ↔ init.2.2 (ix2 a q) < x ∨ ∃ l : Fin 2560, l.val < 128 * n ∧
        keyOf 0x3F4CCCCD#32 (boxTab (arg7.view.read (Elt Ideal) X_arg7) (arg8.view.read (Elt Ideal) X_arg8) (arg9.view.read (Elt Ideal) X_arg9) (arg10.view.read (Elt Ideal) X_arg10) (arg11.view.read (Elt Ideal) X_arg11) a l) (boxAt v1 v3 v5 v7 v9 q) (arg12.view.read (Elt Ideal) X_arg12 (ix2 a l)) (arg13.view.read (Elt Ideal) X_arg13 (ix2 a l)) < x) := by
  induction n with
  | zero =>
    unfold st_k0_t1
    exact ⟨⟨Or.inl, fun h => h.elim id fun ⟨l, hl, _⟩ => absurd hl (Nat.not_lt_zero _)⟩,
      ⟨Or.inl, fun h => h.elim id fun ⟨l, hl, _⟩ => absurd hl (Nat.not_lt_zero _)⟩,
      ⟨Or.inl, fun h => h.elim id fun ⟨l, hl, _⟩ => absurd hl (Nat.not_lt_zero _)⟩⟩
  | succ n ih =>
    obtain ⟨h1, h2, h3⟩ := ih (Nat.le_of_succ_le hn)
    have e := st_k0_t1_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v1 v3 v5 v7 v9 v19 v24 v27 X_arg7 X_arg8 X_arg9 X_arg10 X_arg11 X_arg12 X_arg13 init ⟨n, hn⟩
    rw [trip_eq] at e
    rw [show n + 1 = (⟨n, hn⟩ : Fin k0_t1_loop.trips).val + 1 from rfl, e]
    exact ⟨walk_tile_lt _ _ _ _ _ _ _ _ _ _ _ _ _ _ _ _ _ _ _ _ ⟨n, hn⟩ _ a q x _ h1, walk_tile_lt _ _ _ _ _ _ _ _ _ _ _ _ _ _ _ _ _ _ _ _ ⟨n, hn⟩ _ a q x _ h2,
      walk_tile_lt _ _ _ _ _ _ _ _ _ _ _ _ _ _ _ _ _ _ _ _ ⟨n, hn⟩ _ a q x _ h3⟩

end Cert.Peak

end
-- ==== Proof.Head.lean ====
/- What the body leaves in its four outputs, written over the blocks it was given. -/
module

public import proofs.«01_k».proof.Proof.Own.KernelIdeal.Frame
public import proofs.«01_k».proof.Proof.Loop
public import Idealize.ShloMosaic.Lib.VecWindow

@[expose] public section

set_option maxRecDepth 16384

noncomputable section

namespace Cert.Peak

open Idealize.ShloMosaic Idealize.ShloMosaic.TcCoe Idealize.ShloMosaic.Tactic Idealize.ShloMosaic.ValueIdx Cert.KernelIdeal Cert.KernelIdeal.Gen
open Cert.KernelIdeal.Facts

/-- A window's load is a window of what the memref was set to read. -/
theorem rd_cut {sig : RefSig} {κ : Kind} {sp : Space} {s : Shape} {e : EltTy} {Val : EltTy → Type} {m : Memref sig κ sp s e} (h : m.IsWhole)
    (X : s.Idx → Val e) {off size : Fin s.rank → ℕ} (inb : ∀ a, off a + size a ≤ s.size a) :
    View.readAt Val m.view (Rect.unit off size inb).toLoadRect (h.unread X) = VecWindow.window X off size inb :=
  (View.readAt_unit _ _ inb rfl inb).trans (congrArg (fun Y => VecWindow.window Y off size inb) (h.read_unread X))

/-- A layer: the product with the weights, plus the bias, and the leaky ramp. -/
def layer (w : FVec Ideal S1x256x256 .f32) (b : FVec Ideal S1x256x1 .f32) (h : FVec Ideal S256x1000 .f32) : FVec Ideal S256x1000 .f32 :=
  let z : FVec Ideal S256x1000 .f32 := addf (matmul dot_S256x256_S256x1000_S256x1000_1_0_0_1_n_n (some .fp32) (shapeCast S256x256 w shapeCasts_S1x256x256_S256x256) h
    (constant S256x1000 .f32 0x00000000#32)) (broadcastTo S256x1000 (shapeCast S256x1 b shapeCasts_S1x256x1_S256x1) broadcasts_S256x1_S256x1000)
  select (cmpf .oge z (broadcast S256x1000 (Scalar.ofBits .f32 0x00000000#32))) z (mulf (broadcast S256x1000 (Scalar.ofBits .f32 0x3E4CCCCD#32)) z)

/-- The features' block without its leading axis. -/
def featK (x : Vec Ideal S1x256x1000 .f32) : FVec Ideal S256x1000 .f32 := shapeCast S256x1000 x shapeCasts_S1x256x1000_S256x1000

/-- The features after six layers. -/
def hidden6 (x : Vec Ideal S1x256x1000 .f32) (W : Vec Ideal S6x256x256 .f32) (b : Vec Ideal S6x256x1 .f32) : FVec Ideal S256x1000 .f32 :=
  layer (VecWindow.window W ![5, 0, 0] S1x256x256.size inb_S6x256x256_S1x256x256_5_0_0)
    (VecWindow.window b ![5, 0, 0] S1x256x1.size inb_S6x256x1_S1x256x1_5_0_0) (layer (VecWindow.window W ![4, 0, 0] S1x256x256.size inb_S6x256x256_S1x256x256_4_0_0)
    (VecWindow.window b ![4, 0, 0] S1x256x1.size inb_S6x256x1_S1x256x1_4_0_0) (layer (VecWindow.window W ![3, 0, 0] S1x256x256.size inb_S6x256x256_S1x256x256_3_0_0)
    (VecWindow.window b ![3, 0, 0] S1x256x1.size inb_S6x256x1_S1x256x1_3_0_0) (layer (VecWindow.window W ![2, 0, 0] S1x256x256.size inb_S6x256x256_S1x256x256_2_0_0)
    (VecWindow.window b ![2, 0, 0] S1x256x1.size inb_S6x256x1_S1x256x1_2_0_0) (layer (VecWindow.window W ![1, 0, 0] S1x256x256.size inb_S6x256x256_S1x256x256_1_0_0)
    (VecWindow.window b ![1, 0, 0] S1x256x1.size inb_S6x256x1_S1x256x1_1_0_0) (layer (VecWindow.window W ![0, 0, 0] S1x256x256.size inb_S6x256x256_S1x256x256_0_0_0)
    (VecWindow.window b ![0, 0, 0] S1x256x1.size inb_S6x256x1_S1x256x1_0_0_0) (featK x))))))

/-- The features after four layers. -/
def hidden4 (x : Vec Ideal S1x256x1000 .f32) (W : Vec Ideal S4x256x256 .f32) (b : Vec Ideal S4x256x1 .f32) : FVec Ideal S256x1000 .f32 :=
  layer (VecWindow.window W ![3, 0, 0] S1x256x256.size inb_S4x256x256_S1x256x256_3_0_0)
    (VecWindow.window b ![3, 0, 0] S1x256x1.size inb_S4x256x1_S1x256x1_3_0_0) (layer (VecWindow.window W ![2, 0, 0] S1x256x256.size inb_S4x256x256_S1x256x256_2_0_0)
    (VecWindow.window b ![2, 0, 0] S1x256x1.size inb_S4x256x1_S1x256x1_2_0_0) (layer (VecWindow.window W ![1, 0, 0] S1x256x256.size inb_S4x256x256_S1x256x256_1_0_0)
    (VecWindow.window b ![1, 0, 0] S1x256x1.size inb_S4x256x1_S1x256x1_1_0_0) (layer (VecWindow.window W ![0, 0, 0] S1x256x256.size inb_S4x256x256_S1x256x256_0_0_0)
    (VecWindow.window b ![0, 0, 0] S1x256x1.size inb_S4x256x1_S1x256x1_0_0_0) (featK x))))

/-- A stack's last product, of 3 rows. -/
def last3 (W : FVec Ideal S3x256 .f32) (b : FVec Ideal S3x1 .f32) (h : FVec Ideal S256x1000 .f32) : FVec Ideal S3x1000 .f32 :=
  addf (matmul dot_S3x256_S256x1000_S3x1000_1_0_0_1_n_n (some .fp32) W h (constant S3x1000 .f32 0x00000000#32))
    (broadcastTo S3x1000 (shapeCast S3x1 b shapeCasts_S3x1_S3x1) broadcasts_S3x1_S3x1000)

/-- A stack's last product, of 1 rows. -/
def last1 (W : FVec Ideal S1x256 .f32) (b : FVec Ideal S1x1 .f32) (h : FVec Ideal S256x1000 .f32) : FVec Ideal S1x1000 .f32 :=
  addf (matmul dot_S1x256_S256x1000_S1x1000_1_0_0_1_n_n (some .fp32) W h (constant S1x1000 .f32 0x00000000#32))
    (broadcastTo S1x1000 (shapeCast S1x1 b shapeCasts_S1x1_S1x1) broadcasts_S1x1_S1x1000)

/-- A stack's last product, of 4 rows. -/
def last4 (W : FVec Ideal S4x256 .f32) (b : FVec Ideal S4x1 .f32) (h : FVec Ideal S256x1000 .f32) : FVec Ideal S4x1000 .f32 :=
  addf (matmul dot_S4x256_S256x1000_S4x1000_1_0_0_1_n_n (some .fp32) W h (constant S4x1000 .f32 0x00000000#32))
    (broadcastTo S4x1000 (shapeCast S4x1 b shapeCasts_S4x1_S4x1) broadcasts_S4x1_S4x1000)

/-- The weights of the three masks. -/
def softK (z : FVec Ideal S3x1000 .f32) : FVec Ideal S3x1000 .f32 :=
  let y : FVec Ideal S3x1000 .f32 := exp (subf z (broadcastTo S3x1000 (shapeCast S1x1000 (multiReduction .maximumf [0] S1000 z 0xFF800000#32 reduces_S3x1000_S1000 (.inl rfl) rfl)
    shapeCasts_S1000_S1x1000) broadcasts_S1x1000_S3x1000))
  divf y (broadcastTo S3x1000 (shapeCast S1x1000 (multiReduction .add [0] S1000 y 0x00000000#32 reduces_S3x1000_S1000 (.inl rfl) rfl) shapeCasts_S1000_S1x1000) broadcasts_S1x1000_S3x1000)

/-- A mask: one where no row's key is below the given key. -/
def maskK (key : FVec Ideal S1x1000 .f32) (st : FVec Ideal S8x1000 .f32) : FVec Ideal S1x1000 .f32 :=
  select (cmpf .olt (shapeCast S1x1000 (multiReduction .minimumf [0] S1000 st 0x7F800000#32 reduces_S8x1000_S1000 (.inl rfl) rfl) shapeCasts_S1000_S1x1000) key)
    (broadcast S1x1000 (Scalar.ofBits .f32 0x00000000#32)) (broadcast S1x1000 (Scalar.ofBits .f32 0x3F800000#32))

/-- A block's one row. -/
def rowB (x : Vec Ideal S1x1x1000 .f32) : FVec Ideal S1x1000 .f32 :=
  shapeCast S1x1000 (VecWindow.window x ![0, 0, 0] S1x1x1000.size inb_S1x1x1000_S1x1x1000_0_0_0) shapeCasts_S1x1x1000_S1x1000

/-- The overlap ratio of the column's box with the row of the same place among the first 1000. -/
def selfIou (x0 x1 x2 x3 x4 : Vec Ideal S1x1x1000 .f32) (x5 : Vec Ideal S7x1x1000 .f32) : FVec Ideal S1x1000 .f32 :=
  let w : FVec Ideal S1x1000 .f32 := maximumf (subf (minimumf (shapeCast S1x1000 (VecWindow.window x5 ![2, 0, 0] S1x1x1000.size inb_S7x1x1000_S1x1x1000_2_0_0) shapeCasts_S1x1x1000_S1x1000) (rowB x2)) (maximumf (shapeCast S1x1000 (VecWindow.window x5 ![0, 0, 0] S1x1x1000.size inb_S7x1x1000_S1x1x1000_0_0_0) shapeCasts_S1x1x1000_S1x1000) (rowB x0))) (broadcast S1x1000 (Scalar.ofBits .f32 0x00000000#32))
  let h : FVec Ideal S1x1000 .f32 := maximumf (subf (minimumf (shapeCast S1x1000 (VecWindow.window x5 ![3, 0, 0] S1x1x1000.size inb_S7x1x1000_S1x1x1000_3_0_0) shapeCasts_S1x1x1000_S1x1000) (rowB x3)) (maximumf (shapeCast S1x1000 (VecWindow.window x5 ![1, 0, 0] S1x1x1000.size inb_S7x1x1000_S1x1x1000_1_0_0) shapeCasts_S1x1x1000_S1x1000) (rowB x1))) (broadcast S1x1000 (Scalar.ofBits .f32 0x00000000#32))
  divf (mulf w h) (subf (addf (shapeCast S1x1000 (VecWindow.window x5 ![4, 0, 0] S1x1x1000.size inb_S7x1x1000_S1x1x1000_4_0_0) shapeCasts_S1x1x1000_S1x1000) (rowB x4)) (mulf w h))

/-- The key of that row for a threshold. -/
def selfKey (t : BitVec 32) (x0 x1 x2 x3 x4 : Vec Ideal S1x1x1000 .f32) (x5 : Vec Ideal S7x1x1000 .f32) : FVec Ideal S1x1000 .f32 :=
  select (cmpf .oge (selfIou x0 x1 x2 x3 x4 x5) (broadcast S1x1000 (Scalar.ofBits .f32 t))) (shapeCast S1x1000 (VecWindow.window x5 ![5, 0, 0] S1x1x1000.size inb_S7x1x1000_S1x1x1000_5_0_0) shapeCasts_S1x1x1000_S1x1000) (shapeCast S1x1000 (VecWindow.window x5 ![6, 0, 0] S1x1x1000.size inb_S7x1x1000_S1x1x1000_6_0_0) shapeCasts_S1x1x1000_S1x1000)

/-- The weighted sum of the masks. -/
def locOut (m1 m2 m3 : FVec Ideal S1x1000 .f32) (w : FVec Ideal S3x1000 .f32) : FVec Ideal S1x1x1000 .f32 :=
  shapeCast S1x1x1000 (addf (addf (mulf m1 (extractStridedSlice S1x1000 ![0, 0] w slices_S3x1000_o0_0_S1x1000)) (mulf m2 (extractStridedSlice S1x1000 ![1, 0] w slices_S3x1000_o1_0_S1x1000)))
    (mulf m3 (extractStridedSlice S1x1000 ![2, 0] w slices_S3x1000_o2_0_S1x1000))) shapeCasts_S1x1000_S1x1x1000

/-- The weights as the body computes them. -/
def weightsK (x13 : Vec Ideal S1x256x1000 .f32) (x14 : Vec Ideal S6x256x256 .f32) (x15 : Vec Ideal S6x256x1 .f32) (x16 : Vec Ideal S3x256 .f32) (x17 : Vec Ideal S3x1 .f32) : FVec Ideal S3x1000 .f32 :=
  softK (last3 (VecWindow.window x16 ![0, 0] S3x256.size inb_S3x256_S3x256_0_0) (VecWindow.window x17 ![0, 0] S3x1.size inb_S3x1_S3x1_0_0)
    (hidden6 (VecWindow.window x13 ![0, 0, 0] S1x256x1000.size inb_S1x256x1000_S1x256x1000_0_0_0) x14 x15))

/-- The first output's block. -/
def piOut (x13 : Vec Ideal S1x256x1000 .f32) (x18 : Vec Ideal S4x256x256 .f32) (x19 : Vec Ideal S4x256x1 .f32) (x20 : Vec Ideal S1x256 .f32) (x21 : Vec Ideal S1x1 .f32) : FVec Ideal S1x1x1000 .f32 :=
  shapeCast S1x1x1000 (exp (last1 (VecWindow.window x20 ![0, 0] S1x256.size inb_S1x256_S1x256_0_0) (VecWindow.window x21 ![0, 0] S1x1.size inb_S1x1_S1x1_0_0)
    (hidden4 (VecWindow.window x13 ![0, 0, 0] S1x256x1000.size inb_S1x256x1000_S1x256x1000_0_0_0) x18 x19))) shapeCasts_S1x1000_S1x1x1000

/-- A row scaled. -/
def scaled (x : Vec Ideal S1x1x1000 .f32) : FVec Ideal S1x1000 .f32 := mulf (broadcast S1x1000 (Scalar.ofBits .f32 0x3CA3D70A#32)) (rowB x)

/-- Four rows one above the other. -/
def stack4 (a b c d : FVec Ideal S1x1000 .f32) : FVec Ideal S4x1000 .f32 :=
  concatenate S4x1000 0 [⟨S1x1000, a⟩, ⟨S1x1000, b⟩, ⟨S1x1000, c⟩, ⟨S1x1000, d⟩] concatenates_S1x1000_S1x1000_S1x1000_S1x1000_S4x1000_d0

/-- The second output's block. -/
def muOut (x0 x1 x2 x3 : Vec Ideal S1x1x1000 .f32) : FVec Ideal S1x4x1000 .f32 :=
  shapeCast S1x4x1000 (stack4 (scaled x0) (scaled x1) (scaled x2) (scaled x3)) shapeCasts_S4x1000_S1x4x1000

/-- The smallest width. -/
def least (a b : Vec Ideal S1x1x1000 .f32) : FVec Ideal S1x1000 .f32 :=
  maximumf (subf (scaled b) (scaled a)) (broadcast S1x1000 (Scalar.ofBits .f32 0x2B8CBCCC#32))

/-- The smooth ramp. -/
def softplusK (z : FVec Ideal S4x1000 .f32) : FVec Ideal S4x1000 .f32 :=
  addf (maximumf z (broadcast S4x1000 (Scalar.ofBits .f32 0x00000000#32)))
    (log1p (exp (subf (broadcast S4x1000 (Scalar.ofBits .f32 0x00000000#32)) (absf z))))

/-- The third output's block. -/
def gammaOut (x0 x1 x2 x3 : Vec Ideal S1x1x1000 .f32) (x13 : Vec Ideal S1x256x1000 .f32) (x22 : Vec Ideal S6x256x256 .f32) (x23 : Vec Ideal S6x256x1 .f32) (x24 : Vec Ideal S4x256 .f32) (x25 : Vec Ideal S4x1 .f32) : FVec Ideal S1x4x1000 .f32 :=
  shapeCast S1x4x1000 (addf (softplusK (last4 (VecWindow.window x24 ![0, 0] S4x256.size inb_S4x256_S4x256_0_0) (VecWindow.window x25 ![0, 0] S4x1.size inb_S4x1_S4x1_0_0)
      (hidden6 (VecWindow.window x13 ![0, 0, 0] S1x256x1000.size inb_S1x256x1000_S1x256x1000_0_0_0) x22 x23)))
    (mulf (broadcast S4x1000 (Scalar.ofBits .f32 0x3D4CCCCD#32)) (stack4 (least x0 x2) (least x1 x3) (least x0 x2) (least x1 x3)))) shapeCasts_S4x1000_S1x4x1000

/-- Output 0 of the body. -/
theorem out26_eq (c : Dev nD) (i : grid0.Coords) (arg1 : Memref sig .tc .vmem S1x1x1000 .f32) (harg1 : arg1.IsWhole) (arg2 : Memref sig .tc .vmem S1x1x1000 .f32) (harg2 : arg2.IsWhole) (arg3 : Memref sig .tc .vmem S1x1x1000 .f32) (harg3 : arg3.IsWhole) (arg4 : Memref sig .tc .vmem S1x1x1000 .f32) (harg4 : arg4.IsWhole) (arg5 : Memref sig .tc .vmem S1x1x1000 .f32) (harg5 : arg5.IsWhole) (arg6 : Memref sig .tc .vmem S7x1x1000 .f32) (harg6 : arg6.IsWhole) (arg7 : Memref sig .tc .vmem S8x2560 .f32) (harg7 : arg7.IsWhole) (arg8 : Memref sig .tc .vmem S8x2560 .f32) (harg8 : arg8.IsWhole) (arg9 : Memref sig .tc .vmem S8x2560 .f32) (harg9 : arg9.IsWhole) (arg10 : Memref sig .tc .vmem S8x2560 .f32) (harg10 : arg10.IsWhole) (arg11 : Memref sig .tc .vmem S8x2560 .f32) (harg11 : arg11.IsWhole) (arg12 : Memref sig .tc .vmem S8x2560 .f32) (harg12 : arg12.IsWhole) (arg13 : Memref sig .tc .vmem S8x2560 .f32) (harg13 : arg13.IsWhole) (arg14 : Memref sig .tc .vmem S1x256x1000 .f32) (harg14 : arg14.IsWhole) (arg15 : Memref sig .tc .vmem S6x256x256 .f32) (harg15 : arg15.IsWhole) (arg16 : Memref sig .tc .vmem S6x256x1 .f32) (harg16 : arg16.IsWhole) (arg17 : Memref sig .tc .vmem S3x256 .f32) (harg17 : arg17.IsWhole) (arg18 : Memref sig .tc .vmem S3x1 .f32) (harg18 : arg18.IsWhole) (arg19 : Memref sig .tc .vmem S4x256x256 .f32) (harg19 : arg19.IsWhole) (arg20 : Memref sig .tc .vmem S4x256x1 .f32) (harg20 : arg20.IsWhole) (arg21 : Memref sig .tc .vmem S1x256 .f32) (harg21 : arg21.IsWhole) (arg22 : Memref sig .tc .vmem S1x1 .f32) (harg22 : arg22.IsWhole) (arg23 : Memref sig .tc .vmem S6x256x256 .f32) (harg23 : arg23.IsWhole) (arg24 : Memref sig .tc .vmem S6x256x1 .f32) (harg24 : arg24.IsWhole) (arg25 : Memref sig .tc .vmem S4x256 .f32) (harg25 : arg25.IsWhole) (arg26 : Memref sig .tc .vmem S4x1 .f32) (harg26 : arg26.IsWhole) (arg27 : Memref sig .tc .vmem S1x1x1000 .f32) (harg27 : arg27.IsWhole) (arg28 : Memref sig .tc .vmem S1x4x1000 .f32) (harg28 : arg28.IsWhole) (arg29 : Memref sig .tc .vmem S1x4x1000 .f32) (harg29 : arg29.IsWhole) (arg30 : Memref sig .tc .vmem S1x1x1000 .f32) (harg30 : arg30.IsWhole)
    (x0 : Vec Ideal S1x1x1000 .f32) (x1 : Vec Ideal S1x1x1000 .f32) (x2 : Vec Ideal S1x1x1000 .f32) (x3 : Vec Ideal S1x1x1000 .f32) (x4 : Vec Ideal S1x1x1000 .f32) (x5 : Vec Ideal S7x1x1000 .f32) (x6 : Vec Ideal S8x2560 .f32) (x7 : Vec Ideal S8x2560 .f32) (x8 : Vec Ideal S8x2560 .f32) (x9 : Vec Ideal S8x2560 .f32) (x10 : Vec Ideal S8x2560 .f32) (x11 : Vec Ideal S8x2560 .f32) (x12 : Vec Ideal S8x2560 .f32) (x13 : Vec Ideal S1x256x1000 .f32) (x14 : Vec Ideal S6x256x256 .f32) (x15 : Vec Ideal S6x256x1 .f32) (x16 : Vec Ideal S3x256 .f32) (x17 : Vec Ideal S3x1 .f32) (x18 : Vec Ideal S4x256x256 .f32) (x19 : Vec Ideal S4x256x1 .f32) (x20 : Vec Ideal S1x256 .f32) (x21 : Vec Ideal S1x1 .f32) (x22 : Vec Ideal S6x256x256 .f32) (x23 : Vec Ideal S6x256x1 .f32) (x24 : Vec Ideal S4x256 .f32) (x25 : Vec Ideal S4x1 .f32) :
    out0_A_26 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22 x23 x24 x25 = piOut x13 x18 x19 x20 x21 := by
  unfold out0_A_26 kernelRun0_A
  refine (View.read_writes_full _ _ _ _ _).trans ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.cst_144, rd_cut]
  sl_kernel_rfl

/-- Output 1 of the body. -/
theorem out27_eq (c : Dev nD) (i : grid0.Coords) (arg1 : Memref sig .tc .vmem S1x1x1000 .f32) (harg1 : arg1.IsWhole) (arg2 : Memref sig .tc .vmem S1x1x1000 .f32) (harg2 : arg2.IsWhole) (arg3 : Memref sig .tc .vmem S1x1x1000 .f32) (harg3 : arg3.IsWhole) (arg4 : Memref sig .tc .vmem S1x1x1000 .f32) (harg4 : arg4.IsWhole) (arg5 : Memref sig .tc .vmem S1x1x1000 .f32) (harg5 : arg5.IsWhole) (arg6 : Memref sig .tc .vmem S7x1x1000 .f32) (harg6 : arg6.IsWhole) (arg7 : Memref sig .tc .vmem S8x2560 .f32) (harg7 : arg7.IsWhole) (arg8 : Memref sig .tc .vmem S8x2560 .f32) (harg8 : arg8.IsWhole) (arg9 : Memref sig .tc .vmem S8x2560 .f32) (harg9 : arg9.IsWhole) (arg10 : Memref sig .tc .vmem S8x2560 .f32) (harg10 : arg10.IsWhole) (arg11 : Memref sig .tc .vmem S8x2560 .f32) (harg11 : arg11.IsWhole) (arg12 : Memref sig .tc .vmem S8x2560 .f32) (harg12 : arg12.IsWhole) (arg13 : Memref sig .tc .vmem S8x2560 .f32) (harg13 : arg13.IsWhole) (arg14 : Memref sig .tc .vmem S1x256x1000 .f32) (harg14 : arg14.IsWhole) (arg15 : Memref sig .tc .vmem S6x256x256 .f32) (harg15 : arg15.IsWhole) (arg16 : Memref sig .tc .vmem S6x256x1 .f32) (harg16 : arg16.IsWhole) (arg17 : Memref sig .tc .vmem S3x256 .f32) (harg17 : arg17.IsWhole) (arg18 : Memref sig .tc .vmem S3x1 .f32) (harg18 : arg18.IsWhole) (arg19 : Memref sig .tc .vmem S4x256x256 .f32) (harg19 : arg19.IsWhole) (arg20 : Memref sig .tc .vmem S4x256x1 .f32) (harg20 : arg20.IsWhole) (arg21 : Memref sig .tc .vmem S1x256 .f32) (harg21 : arg21.IsWhole) (arg22 : Memref sig .tc .vmem S1x1 .f32) (harg22 : arg22.IsWhole) (arg23 : Memref sig .tc .vmem S6x256x256 .f32) (harg23 : arg23.IsWhole) (arg24 : Memref sig .tc .vmem S6x256x1 .f32) (harg24 : arg24.IsWhole) (arg25 : Memref sig .tc .vmem S4x256 .f32) (harg25 : arg25.IsWhole) (arg26 : Memref sig .tc .vmem S4x1 .f32) (harg26 : arg26.IsWhole) (arg27 : Memref sig .tc .vmem S1x1x1000 .f32) (harg27 : arg27.IsWhole) (arg28 : Memref sig .tc .vmem S1x4x1000 .f32) (harg28 : arg28.IsWhole) (arg29 : Memref sig .tc .vmem S1x4x1000 .f32) (harg29 : arg29.IsWhole) (arg30 : Memref sig .tc .vmem S1x1x1000 .f32) (harg30 : arg30.IsWhole)
    (x0 : Vec Ideal S1x1x1000 .f32) (x1 : Vec Ideal S1x1x1000 .f32) (x2 : Vec Ideal S1x1x1000 .f32) (x3 : Vec Ideal S1x1x1000 .f32) (x4 : Vec Ideal S1x1x1000 .f32) (x5 : Vec Ideal S7x1x1000 .f32) (x6 : Vec Ideal S8x2560 .f32) (x7 : Vec Ideal S8x2560 .f32) (x8 : Vec Ideal S8x2560 .f32) (x9 : Vec Ideal S8x2560 .f32) (x10 : Vec Ideal S8x2560 .f32) (x11 : Vec Ideal S8x2560 .f32) (x12 : Vec Ideal S8x2560 .f32) (x13 : Vec Ideal S1x256x1000 .f32) (x14 : Vec Ideal S6x256x256 .f32) (x15 : Vec Ideal S6x256x1 .f32) (x16 : Vec Ideal S3x256 .f32) (x17 : Vec Ideal S3x1 .f32) (x18 : Vec Ideal S4x256x256 .f32) (x19 : Vec Ideal S4x256x1 .f32) (x20 : Vec Ideal S1x256 .f32) (x21 : Vec Ideal S1x1 .f32) (x22 : Vec Ideal S6x256x256 .f32) (x23 : Vec Ideal S6x256x1 .f32) (x24 : Vec Ideal S4x256 .f32) (x25 : Vec Ideal S4x1 .f32) :
    out0_A_27 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22 x23 x24 x25 = muOut x0 x1 x2 x3 := by
  unfold out0_A_27 kernelRun0_A
  refine (View.read_writes_full _ _ _ _ _).trans ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.cst_144, rd_cut]
  sl_kernel_rfl

/-- Output 2 of the body. -/
theorem out28_eq (c : Dev nD) (i : grid0.Coords) (arg1 : Memref sig .tc .vmem S1x1x1000 .f32) (harg1 : arg1.IsWhole) (arg2 : Memref sig .tc .vmem S1x1x1000 .f32) (harg2 : arg2.IsWhole) (arg3 : Memref sig .tc .vmem S1x1x1000 .f32) (harg3 : arg3.IsWhole) (arg4 : Memref sig .tc .vmem S1x1x1000 .f32) (harg4 : arg4.IsWhole) (arg5 : Memref sig .tc .vmem S1x1x1000 .f32) (harg5 : arg5.IsWhole) (arg6 : Memref sig .tc .vmem S7x1x1000 .f32) (harg6 : arg6.IsWhole) (arg7 : Memref sig .tc .vmem S8x2560 .f32) (harg7 : arg7.IsWhole) (arg8 : Memref sig .tc .vmem S8x2560 .f32) (harg8 : arg8.IsWhole) (arg9 : Memref sig .tc .vmem S8x2560 .f32) (harg9 : arg9.IsWhole) (arg10 : Memref sig .tc .vmem S8x2560 .f32) (harg10 : arg10.IsWhole) (arg11 : Memref sig .tc .vmem S8x2560 .f32) (harg11 : arg11.IsWhole) (arg12 : Memref sig .tc .vmem S8x2560 .f32) (harg12 : arg12.IsWhole) (arg13 : Memref sig .tc .vmem S8x2560 .f32) (harg13 : arg13.IsWhole) (arg14 : Memref sig .tc .vmem S1x256x1000 .f32) (harg14 : arg14.IsWhole) (arg15 : Memref sig .tc .vmem S6x256x256 .f32) (harg15 : arg15.IsWhole) (arg16 : Memref sig .tc .vmem S6x256x1 .f32) (harg16 : arg16.IsWhole) (arg17 : Memref sig .tc .vmem S3x256 .f32) (harg17 : arg17.IsWhole) (arg18 : Memref sig .tc .vmem S3x1 .f32) (harg18 : arg18.IsWhole) (arg19 : Memref sig .tc .vmem S4x256x256 .f32) (harg19 : arg19.IsWhole) (arg20 : Memref sig .tc .vmem S4x256x1 .f32) (harg20 : arg20.IsWhole) (arg21 : Memref sig .tc .vmem S1x256 .f32) (harg21 : arg21.IsWhole) (arg22 : Memref sig .tc .vmem S1x1 .f32) (harg22 : arg22.IsWhole) (arg23 : Memref sig .tc .vmem S6x256x256 .f32) (harg23 : arg23.IsWhole) (arg24 : Memref sig .tc .vmem S6x256x1 .f32) (harg24 : arg24.IsWhole) (arg25 : Memref sig .tc .vmem S4x256 .f32) (harg25 : arg25.IsWhole) (arg26 : Memref sig .tc .vmem S4x1 .f32) (harg26 : arg26.IsWhole) (arg27 : Memref sig .tc .vmem S1x1x1000 .f32) (harg27 : arg27.IsWhole) (arg28 : Memref sig .tc .vmem S1x4x1000 .f32) (harg28 : arg28.IsWhole) (arg29 : Memref sig .tc .vmem S1x4x1000 .f32) (harg29 : arg29.IsWhole) (arg30 : Memref sig .tc .vmem S1x1x1000 .f32) (harg30 : arg30.IsWhole)
    (x0 : Vec Ideal S1x1x1000 .f32) (x1 : Vec Ideal S1x1x1000 .f32) (x2 : Vec Ideal S1x1x1000 .f32) (x3 : Vec Ideal S1x1x1000 .f32) (x4 : Vec Ideal S1x1x1000 .f32) (x5 : Vec Ideal S7x1x1000 .f32) (x6 : Vec Ideal S8x2560 .f32) (x7 : Vec Ideal S8x2560 .f32) (x8 : Vec Ideal S8x2560 .f32) (x9 : Vec Ideal S8x2560 .f32) (x10 : Vec Ideal S8x2560 .f32) (x11 : Vec Ideal S8x2560 .f32) (x12 : Vec Ideal S8x2560 .f32) (x13 : Vec Ideal S1x256x1000 .f32) (x14 : Vec Ideal S6x256x256 .f32) (x15 : Vec Ideal S6x256x1 .f32) (x16 : Vec Ideal S3x256 .f32) (x17 : Vec Ideal S3x1 .f32) (x18 : Vec Ideal S4x256x256 .f32) (x19 : Vec Ideal S4x256x1 .f32) (x20 : Vec Ideal S1x256 .f32) (x21 : Vec Ideal S1x1 .f32) (x22 : Vec Ideal S6x256x256 .f32) (x23 : Vec Ideal S6x256x1 .f32) (x24 : Vec Ideal S4x256 .f32) (x25 : Vec Ideal S4x1 .f32) :
    out0_A_28 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22 x23 x24 x25 = gammaOut x0 x1 x2 x3 x13 x22 x23 x24 x25 := by
  unfold out0_A_28 kernelRun0_A
  refine (View.read_writes_full _ _ _ _ _).trans ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.cst_144, rd_cut]
  sl_kernel_rfl

/-- Output 3 of the body, over the three minima that the loop leaves. -/
theorem out29_eq (c : Dev nD) (i : grid0.Coords) (arg1 : Memref sig .tc .vmem S1x1x1000 .f32) (harg1 : arg1.IsWhole) (arg2 : Memref sig .tc .vmem S1x1x1000 .f32) (harg2 : arg2.IsWhole) (arg3 : Memref sig .tc .vmem S1x1x1000 .f32) (harg3 : arg3.IsWhole) (arg4 : Memref sig .tc .vmem S1x1x1000 .f32) (harg4 : arg4.IsWhole) (arg5 : Memref sig .tc .vmem S1x1x1000 .f32) (harg5 : arg5.IsWhole) (arg6 : Memref sig .tc .vmem S7x1x1000 .f32) (harg6 : arg6.IsWhole) (arg7 : Memref sig .tc .vmem S8x2560 .f32) (harg7 : arg7.IsWhole) (arg8 : Memref sig .tc .vmem S8x2560 .f32) (harg8 : arg8.IsWhole) (arg9 : Memref sig .tc .vmem S8x2560 .f32) (harg9 : arg9.IsWhole) (arg10 : Memref sig .tc .vmem S8x2560 .f32) (harg10 : arg10.IsWhole) (arg11 : Memref sig .tc .vmem S8x2560 .f32) (harg11 : arg11.IsWhole) (arg12 : Memref sig .tc .vmem S8x2560 .f32) (harg12 : arg12.IsWhole) (arg13 : Memref sig .tc .vmem S8x2560 .f32) (harg13 : arg13.IsWhole) (arg14 : Memref sig .tc .vmem S1x256x1000 .f32) (harg14 : arg14.IsWhole) (arg15 : Memref sig .tc .vmem S6x256x256 .f32) (harg15 : arg15.IsWhole) (arg16 : Memref sig .tc .vmem S6x256x1 .f32) (harg16 : arg16.IsWhole) (arg17 : Memref sig .tc .vmem S3x256 .f32) (harg17 : arg17.IsWhole) (arg18 : Memref sig .tc .vmem S3x1 .f32) (harg18 : arg18.IsWhole) (arg19 : Memref sig .tc .vmem S4x256x256 .f32) (harg19 : arg19.IsWhole) (arg20 : Memref sig .tc .vmem S4x256x1 .f32) (harg20 : arg20.IsWhole) (arg21 : Memref sig .tc .vmem S1x256 .f32) (harg21 : arg21.IsWhole) (arg22 : Memref sig .tc .vmem S1x1 .f32) (harg22 : arg22.IsWhole) (arg23 : Memref sig .tc .vmem S6x256x256 .f32) (harg23 : arg23.IsWhole) (arg24 : Memref sig .tc .vmem S6x256x1 .f32) (harg24 : arg24.IsWhole) (arg25 : Memref sig .tc .vmem S4x256 .f32) (harg25 : arg25.IsWhole) (arg26 : Memref sig .tc .vmem S4x1 .f32) (harg26 : arg26.IsWhole) (arg27 : Memref sig .tc .vmem S1x1x1000 .f32) (harg27 : arg27.IsWhole) (arg28 : Memref sig .tc .vmem S1x4x1000 .f32) (harg28 : arg28.IsWhole) (arg29 : Memref sig .tc .vmem S1x4x1000 .f32) (harg29 : arg29.IsWhole) (arg30 : Memref sig .tc .vmem S1x1x1000 .f32) (harg30 : arg30.IsWhole)
    (x0 : Vec Ideal S1x1x1000 .f32) (x1 : Vec Ideal S1x1x1000 .f32) (x2 : Vec Ideal S1x1x1000 .f32) (x3 : Vec Ideal S1x1x1000 .f32) (x4 : Vec Ideal S1x1x1000 .f32) (x5 : Vec Ideal S7x1x1000 .f32) (x6 : Vec Ideal S8x2560 .f32) (x7 : Vec Ideal S8x2560 .f32) (x8 : Vec Ideal S8x2560 .f32) (x9 : Vec Ideal S8x2560 .f32) (x10 : Vec Ideal S8x2560 .f32) (x11 : Vec Ideal S8x2560 .f32) (x12 : Vec Ideal S8x2560 .f32) (x13 : Vec Ideal S1x256x1000 .f32) (x14 : Vec Ideal S6x256x256 .f32) (x15 : Vec Ideal S6x256x1 .f32) (x16 : Vec Ideal S3x256 .f32) (x17 : Vec Ideal S3x1 .f32) (x18 : Vec Ideal S4x256x256 .f32) (x19 : Vec Ideal S4x256x1 .f32) (x20 : Vec Ideal S1x256 .f32) (x21 : Vec Ideal S1x1 .f32) (x22 : Vec Ideal S6x256x256 .f32) (x23 : Vec Ideal S6x256x1 .f32) (x24 : Vec Ideal S4x256 .f32) (x25 : Vec Ideal S4x1 .f32) :
    ∃ s1 s2 s3 : FVec Ideal S8x1000 .f32, out0_A_29 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22 x23 x24 x25
        = locOut (maskK (selfKey 0x3ECCCCCD#32 x0 x1 x2 x3 x4 x5) s1) (maskK (selfKey 0x3F19999A#32 x0 x1 x2 x3 x4 x5) s2) (maskK (selfKey 0x3F4CCCCD#32 x0 x1 x2 x3 x4 x5) s3) (weightsK x13 x14 x15 x16 x17)
      ∧ ∀ (a : Fin 8) (q : Fin 1000) (x : EReal),
          (s1 (ix2 a q) < x ↔ Ideal.ofBits .f32 0x4B800000#32 < x ∨ ∃ l : Fin 2560, keyOf 0x3ECCCCCD#32 (boxTab x6 x7 x8 x9 x10 a l) (boxAt (rowB x0) (rowB x1) (rowB x2) (rowB x3) (rowB x4) q) (x11 (ix2 a l)) (x12 (ix2 a l)) < x)
        ∧ (s2 (ix2 a q) < x ↔ Ideal.ofBits .f32 0x4B800000#32 < x ∨ ∃ l : Fin 2560, keyOf 0x3F19999A#32 (boxTab x6 x7 x8 x9 x10 a l) (boxAt (rowB x0) (rowB x1) (rowB x2) (rowB x3) (rowB x4) q) (x11 (ix2 a l)) (x12 (ix2 a l)) < x)
        ∧ (s3 (ix2 a q) < x ↔ Ideal.ofBits .f32 0x4B800000#32 < x ∨ ∃ l : Fin 2560, keyOf 0x3F4CCCCD#32 (boxTab x6 x7 x8 x9 x10 a l) (boxAt (rowB x0) (rowB x1) (rowB x2) (rowB x3) (rowB x4) q) (x11 (ix2 a l)) (x12 (ix2 a l)) < x) := by
  have H := loop_lt Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30
    (rowB x0) (rowB x1) (rowB x2) (rowB x3) (rowB x4) (shapeCast S1x1000 (VecWindow.window x5 ![4, 0, 0] S1x1x1000.size inb_S7x1x1000_S1x1x1000_4_0_0) shapeCasts_S1x1x1000_S1x1000)
    (k0_pay1035 (VecWindow.window x0 ![0, 0, 0] S1x1x1000.size inb_S1x1x1000_S1x1x1000_0_0_0) (VecWindow.window x2 ![0, 0, 0] S1x1x1000.size inb_S1x1x1000_S1x1x1000_0_0_0)
      (VecWindow.window x5 ![0, 0, 0] S1x1x1000.size inb_S7x1x1000_S1x1x1000_0_0_0) (VecWindow.window x5 ![2, 0, 0] S1x1x1000.size inb_S7x1x1000_S1x1x1000_2_0_0))
    (k0_pay1036 (VecWindow.window x1 ![0, 0, 0] S1x1x1000.size inb_S1x1x1000_S1x1x1000_0_0_0) (VecWindow.window x3 ![0, 0, 0] S1x1x1000.size inb_S1x1x1000_S1x1x1000_0_0_0)
      (VecWindow.window x5 ![1, 0, 0] S1x1x1000.size inb_S7x1x1000_S1x1x1000_1_0_0) (VecWindow.window x5 ![3, 0, 0] S1x1x1000.size inb_S7x1x1000_S1x1x1000_3_0_0))
    (harg7.unread x6) (harg8.unread x7) (harg9.unread x8) (harg10.unread x9) (harg11.unread x10) (harg12.unread x11) (harg13.unread x12)
    (k0_pay1041, k0_pay1041, k0_pay1041)
  refine ⟨?s1, ?s2, ?s3, ?e, fun a q x => ?h⟩
  case h =>
    have h := H a q x k0_t1_loop.trips le_rfl
    simp only [Memref.IsWhole.read_unread] at h
    have e : ∀ l : Fin 2560, l.val < 128 * k0_t1_loop.trips := fun l => by rw [trips_eq]; exact l.isLt
    simp only [e, true_and] at h
    exact h
  case e =>
    unfold out0_A_29 kernelRun0_A
    refine (View.read_writes_full _ _ _ _ _).trans ?_
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.cst_144, rd_cut]
    sl_kernel_rfl

end Cert.Peak

end
-- ==== Proof.Spec.lean ====
/- The head's layers over extended reals, column by column: what both programs compute. -/
module

public import Idealize.ShloMosaic.PureOps.Ideal.Laws

@[expose] public section

noncomputable section

namespace Cert.Peak

open Idealize.ShloMosaic

/-- The leaky ramp. -/
def ramp (z : EReal) : EReal := if 0 ≤ z then z else Ideal.ofBits .f32 0x3E4CCCCD#32 * z

/-- One layer of a column: products, bias, ramp. -/
def lay (W : Fin 256 → Fin 256 → EReal) (b : Fin 256 → EReal) (h : Fin 256 → EReal) (o : Fin 256) : EReal :=
  ramp ((∑ k : Fin 256, W o k * h k) + b o)

/-- The last product of a stack, at one of its rows. -/
def fin (W : Fin 256 → EReal) (b : EReal) (h : Fin 256 → EReal) : EReal := (∑ k : Fin 256, W k * h k) + b

/-- Four layers. -/
def deep4 (W : Fin 4 → Fin 256 → Fin 256 → EReal) (b : Fin 4 → Fin 256 → EReal) (h : Fin 256 → EReal) : Fin 256 → EReal :=
  lay (W 3) (b 3) (lay (W 2) (b 2) (lay (W 1) (b 1) (lay (W 0) (b 0) h)))

/-- Six layers. -/
def deep6 (W : Fin 6 → Fin 256 → Fin 256 → EReal) (b : Fin 6 → Fin 256 → EReal) (h : Fin 256 → EReal) : Fin 256 → EReal :=
  lay (W 5) (b 5) (lay (W 4) (b 4) (lay (W 3) (b 3) (lay (W 2) (b 2) (lay (W 1) (b 1) (lay (W 0) (b 0) h)))))

/-- Weights that sum to one, from three numbers. -/
def soft (z : Fin 3 → EReal) (o : Fin 3) : EReal :=
  Ideal.div (Ideal.exp (z o - Finset.univ.fold max (Ideal.ofBits .f32 0xFF800000#32) z))
    (∑ x : Fin 3, Ideal.exp (z x - Finset.univ.fold max (Ideal.ofBits .f32 0xFF800000#32) z))

/-- The smooth ramp. -/
def smooth (z : EReal) : EReal := max z 0 + Ideal.log1p (Ideal.exp (0 - max z (-z)))

/-- A coordinate scaled. -/
def scale (x : EReal) : EReal := Ideal.ofBits .f32 0x3CA3D70A#32 * x

/-- The least spread between two coordinates. -/
def spread (a b : EReal) : EReal := Ideal.ofBits .f32 0x3D4CCCCD#32 * max (scale b - scale a) (Ideal.ofBits .f32 0x2B8CBCCC#32)

end Cert.Peak

end
-- ==== Proof.ReadK.lean ====
/- The body's outputs read at an index. -/
module

public import proofs.«01_k».proof.Proof.Head
public import proofs.«01_k».proof.Proof.Spec
public import Idealize.ShloMosaic.Lib.Pointwise

@[expose] public section

set_option maxRecDepth 16384

noncomputable section

namespace Cert.Peak

open Idealize.ShloMosaic Idealize.ShloMosaic.TcCoe Idealize.ShloMosaic.Tactic Cert.KernelIdeal Cert.KernelIdeal.Gen
open Cert.KernelIdeal.Facts

/-- A rectangle's index in the shape, coordinate by coordinate. -/
theorem emb_norm {s : Shape} (r : Rect s) (x : r.shape.Idx) :
    r.emb x = Shape.Idx.norm fun a => ⟨r.off a + r.stride a * (x a).val, r.toLoadRect.coord_lt a (x a).isLt⟩ := rfl

/-- A layer at an index. -/
theorem layer_apply (w : FVec Ideal S1x256x256 .f32) (b : FVec Ideal S1x256x1 .f32) (h : FVec Ideal S256x1000 .f32) (o : Fin 256) (n : Fin 1000) :
    layer w b h (ix2 o n) = lay (fun o k => w (ix3 0 o k)) (fun o => b (ix3 0 o 0)) (fun k => h (ix2 k n)) o := by
  pointwise [layer]
  rfl

/-- The features' block at an index. -/
theorem featK_apply (x : Vec Ideal S1x256x1000 .f32) (k : Fin 256) (n : Fin 1000) : featK x (ix2 k n) = x (ix3 0 k n) := by
  pointwise [featK]

/-- Six layers at an index. -/
theorem hidden6_apply (x : Vec Ideal S1x256x1000 .f32) (W : Vec Ideal S6x256x256 .f32) (b : Vec Ideal S6x256x1 .f32) (o : Fin 256) (n : Fin 1000) :
    hidden6 x W b (ix2 o n) = deep6 (fun i o k => W (ix3 i o k)) (fun i o => b (ix3 i o 0)) (fun k => x (ix3 0 k n)) o := by
  unfold hidden6 deep6
  simp only [layer_apply, featK_apply]
  pointwise [VecWindow.window, emb_norm]

/-- Four layers at an index. -/
theorem hidden4_apply (x : Vec Ideal S1x256x1000 .f32) (W : Vec Ideal S4x256x256 .f32) (b : Vec Ideal S4x256x1 .f32) (o : Fin 256) (n : Fin 1000) :
    hidden4 x W b (ix2 o n) = deep4 (fun i o k => W (ix3 i o k)) (fun i o => b (ix3 i o 0)) (fun k => x (ix3 0 k n)) o := by
  unfold hidden4 deep4
  simp only [layer_apply, featK_apply]
  pointwise [VecWindow.window, emb_norm]

/-- A stack's last product at an index, three rows. -/
theorem last3_apply (W : FVec Ideal S3x256 .f32) (b : FVec Ideal S3x1 .f32) (h : FVec Ideal S256x1000 .f32) (o : Fin 3) (n : Fin 1000) :
    last3 W b h (ix2 o n) = fin (fun k => W (ix2 o k)) (b (ix2 o 0)) (fun k => h (ix2 k n)) := by
  pointwise [last3]
  rfl

/-- A stack's last product at an index, one row. -/
theorem last1_apply (W : FVec Ideal S1x256 .f32) (b : FVec Ideal S1x1 .f32) (h : FVec Ideal S256x1000 .f32) (n : Fin 1000) :
    last1 W b h (ix2 0 n) = fin (fun k => W (ix2 0 k)) (b (ix2 0 0)) (fun k => h (ix2 k n)) := by
  pointwise [last1]
  rfl

/-- A stack's last product at an index, four rows. -/
theorem last4_apply (W : FVec Ideal S4x256 .f32) (b : FVec Ideal S4x1 .f32) (h : FVec Ideal S256x1000 .f32) (o : Fin 4) (n : Fin 1000) :
    last4 W b h (ix2 o n) = fin (fun k => W (ix2 o k)) (b (ix2 o 0)) (fun k => h (ix2 k n)) := by
  pointwise [last4]
  rfl

/-- The weights at an index. -/
theorem softK_apply (z : FVec Ideal S3x1000 .f32) (o : Fin 3) (n : Fin 1000) :
    softK z (ix2 o n) = soft (fun o => z (ix2 o n)) o := by
  pointwise [softK]
  rfl

/-- The masks' weights at an index, over the body's blocks. -/
theorem weightsK_apply (x13 : Vec Ideal S1x256x1000 .f32) (x14 : Vec Ideal S6x256x256 .f32) (x15 : Vec Ideal S6x256x1 .f32) (x16 : Vec Ideal S3x256 .f32) (x17 : Vec Ideal S3x1 .f32)
    (o : Fin 3) (n : Fin 1000) :
    weightsK x13 x14 x15 x16 x17 (ix2 o n) = soft (fun o => fin (fun k => x16 (ix2 o k)) (x17 (ix2 o 0))
      (deep6 (fun i o k => x14 (ix3 i o k)) (fun i o => x15 (ix3 i o 0)) (fun k => x13 (ix3 0 k n)))) o := by
  unfold weightsK
  simp only [softK_apply, last3_apply, hidden6_apply]
  pointwise [VecWindow.window, emb_norm]

/-- The first output at an index. -/
theorem piOut_apply (x13 : Vec Ideal S1x256x1000 .f32) (x18 : Vec Ideal S4x256x256 .f32) (x19 : Vec Ideal S4x256x1 .f32) (x20 : Vec Ideal S1x256 .f32) (x21 : Vec Ideal S1x1 .f32) (n : Fin 1000) :
    piOut x13 x18 x19 x20 x21 (ix3 0 0 n) = Ideal.exp (fin (fun k => x20 (ix2 0 k)) (x21 (ix2 0 0))
      (deep4 (fun i o k => x18 (ix3 i o k)) (fun i o => x19 (ix3 i o 0)) (fun k => x13 (ix3 0 k n)))) := by
  pointwise [piOut]
  simp only [last1_apply, hidden4_apply]
  pointwise [VecWindow.window, emb_norm]

/-- A block's row at an index. -/
theorem rowB_apply (x : Vec Ideal S1x1x1000 .f32) (n : Fin 1000) : rowB x (ix2 0 n) = x (ix3 0 0 n) := by
  pointwise [rowB, VecWindow.window, emb_norm]

/-- Four rows at an index. -/
theorem stack4_apply (a b c d : FVec Ideal S1x1000 .f32) (o : Fin 4) (n : Fin 1000) :
    stack4 a b c d (ix2 o n) = ![a (ix2 0 n), b (ix2 0 n), c (ix2 0 n), d (ix2 0 n)] o := by
  pointwise [stack4]
  match o with
  | 0 => rfl
  | 1 => rfl
  | 2 => rfl
  | 3 => rfl

/-- The second output at an index. -/
theorem muOut_apply (x0 x1 x2 x3 : Vec Ideal S1x1x1000 .f32) (o : Fin 4) (n : Fin 1000) :
    muOut x0 x1 x2 x3 (ix3 0 o n) = scale (![x0 (ix3 0 0 n), x1 (ix3 0 0 n), x2 (ix3 0 0 n), x3 (ix3 0 0 n)] o) := by
  have e : muOut x0 x1 x2 x3 (ix3 0 o n) = stack4 (scaled x0) (scaled x1) (scaled x2) (scaled x3) (ix2 o n) := by
    pointwise [muOut]
  have h : ∀ x, scaled x (ix2 0 n) = scale (x (ix3 0 0 n)) := fun x => by
    pointwise [scaled, rowB_apply]
    rfl
  rw [e, stack4_apply, h, h, h, h]
  clear e h
  match o with
  | 0 => rfl
  | 1 => rfl
  | 2 => rfl
  | 3 => rfl

/-- The smooth ramp at an index. -/
theorem softplusK_apply (z : FVec Ideal S4x1000 .f32) (o : Fin 4) (n : Fin 1000) :
    softplusK z (ix2 o n) = smooth (z (ix2 o n)) := by
  pointwise [softplusK]
  rfl

/-- The third output at an index. -/
theorem gammaOut_apply (x0 x1 x2 x3 : Vec Ideal S1x1x1000 .f32) (x13 : Vec Ideal S1x256x1000 .f32) (x22 : Vec Ideal S6x256x256 .f32) (x23 : Vec Ideal S6x256x1 .f32) (x24 : Vec Ideal S4x256 .f32) (x25 : Vec Ideal S4x1 .f32)
    (o : Fin 4) (n : Fin 1000) :
    gammaOut x0 x1 x2 x3 x13 x22 x23 x24 x25 (ix3 0 o n) = smooth (fin (fun k => x24 (ix2 o k)) (x25 (ix2 o 0))
      (deep6 (fun i o k => x22 (ix3 i o k)) (fun i o => x23 (ix3 i o 0)) (fun k => x13 (ix3 0 k n))))
      + ![spread (x0 (ix3 0 0 n)) (x2 (ix3 0 0 n)), spread (x1 (ix3 0 0 n)) (x3 (ix3 0 0 n)), spread (x0 (ix3 0 0 n)) (x2 (ix3 0 0 n)), spread (x1 (ix3 0 0 n)) (x3 (ix3 0 0 n))] o := by
  have h : ∀ x y, Ideal.ofBits .f32 0x3D4CCCCD#32 * least x y (ix2 0 n) = spread (x (ix3 0 0 n)) (y (ix3 0 0 n)) := fun x y => by
    pointwise [least, scaled, rowB_apply]
    rfl
  pointwise [gammaOut]
  simp only [softplusK_apply, last4_apply, hidden6_apply, stack4_apply]
  pointwise [VecWindow.window, emb_norm]
  congr 1
  rw [← h, ← h]
  clear h
  match o with
  | 0 => rfl
  | 1 => rfl
  | 2 => rfl
  | 3 => rfl

/-- A mask at an index: nought where some kept minimum is below the key. -/
theorem maskK_apply (key : FVec Ideal S1x1000 .f32) (st : FVec Ideal S8x1000 .f32) (n : Fin 1000) (hk : key (ix2 0 n) ≤ Ideal.ofBits .f32 0x7F800000#32) :
    maskK key st (ix2 0 n) = if ∃ a : Fin 8, st (ix2 a n) < key (ix2 0 n) then 0 else 1 := by
  pointwise [maskK]
  refine if_congr ?_ rfl rfl
  rw [Finset.fold_min_lt]
  simp [not_lt.mpr hk]

/-- The fourth output at an index. -/
theorem locOut_apply (m1 m2 m3 : FVec Ideal S1x1000 .f32) (w : FVec Ideal S3x1000 .f32) (n : Fin 1000) :
    locOut m1 m2 m3 w (ix3 0 0 n) = m1 (ix2 0 n) * w (ix2 0 n) + m2 (ix2 0 n) * w (ix2 1 n) + m3 (ix2 0 n) * w (ix2 2 n) := by
  pointwise [locOut]

/-- The key of the row of the column's own place. -/
theorem selfKey_apply (t : BitVec 32) (x0 x1 x2 x3 x4 : Vec Ideal S1x1x1000 .f32) (x5 : Vec Ideal S7x1x1000 .f32) (n : Fin 1000) :
    selfKey t x0 x1 x2 x3 x4 x5 (ix2 0 n) = keyOf t ⟨x5 (ix3 0 0 n), x5 (ix3 1 0 n), x5 (ix3 2 0 n), x5 (ix3 3 0 n), x5 (ix3 4 0 n)⟩
      ⟨x0 (ix3 0 0 n), x1 (ix3 0 0 n), x2 (ix3 0 0 n), x3 (ix3 0 0 n), x4 (ix3 0 0 n)⟩ (x5 (ix3 5 0 n)) (x5 (ix3 6 0 n)) := by
  pointwise [selfKey, selfIou, rowB_apply, VecWindow.window, emb_norm]
  rfl

end Cert.Peak

end
-- ==== Proof.Prefix.lean ====
/- What the host code before the kernel leaves in the arrays that the kernel's windows read, as functions of the arguments. -/
module

public import proofs.«01_k».proof.Proof.Gen.KernelIdeal.Frame.Runs
public import Idealize.ShloMosaic.Lib.StableHlo.RunRead

@[expose] public section

set_option maxRecDepth 16384

noncomputable section

namespace Cert.Peak

open Idealize.ShloMosaic Idealize.ShloMosaic.TcCoe Idealize.ShloMosaic.Tactic Cert.KernelIdeal Cert.KernelIdeal.Gen
open Cert.KernelIdeal.Facts

variable {F : FTy → Type} [FloatOps F]

/-- The first corner's first coordinates. -/
def rowX1 (b : FVec F S1x4x20000 .f32) : FVec F S1x20000 .f32 :=
  shapeCast S1x20000 (extractStridedSlice S1x1x20000 ![0, 0, 0] b slices_S1x4x20000_S1x1x20000_0_0_0) shapeCasts_S1x1x20000_S1x20000
/-- The first corner's second coordinates. -/
def rowY1 (b : FVec F S1x4x20000 .f32) : FVec F S1x20000 .f32 :=
  shapeCast S1x20000 (extractStridedSlice S1x1x20000 ![0, 1, 0] b slices_S1x4x20000_S1x1x20000_0_1_0) shapeCasts_S1x1x20000_S1x20000
/-- The second corner's first coordinates. -/
def rowX2 (b : FVec F S1x4x20000 .f32) : FVec F S1x20000 .f32 :=
  shapeCast S1x20000 (extractStridedSlice S1x1x20000 ![0, 2, 0] b slices_S1x4x20000_S1x1x20000_0_2_0) shapeCasts_S1x1x20000_S1x20000
/-- The second corner's second coordinates. -/
def rowY2 (b : FVec F S1x4x20000 .f32) : FVec F S1x20000 .f32 :=
  shapeCast S1x20000 (extractStridedSlice S1x1x20000 ![0, 3, 0] b slices_S1x4x20000_S1x1x20000_0_3_0) shapeCasts_S1x1x20000_S1x20000
/-- The areas. -/
def rowAr (b : FVec F S1x4x20000 .f32) : FVec F S1x20000 .f32 :=
  mulf (subf (rowX2 b) (rowX1 b)) (subf (rowY2 b) (rowY1 b))
/-- The scores in one row. -/
def flatS (s : FVec F S1x1x20000 .f32) : FVec F S20000 .f32 := shapeCast S20000 s shapeCasts_S1x1x20000_S20000
/-- The rows' numbers. -/
def nums : IVec S20000 32 := iotaInDim S20000 32 0
/-- The rows' numbers in the order of descending score. -/
def order (s : FVec F S1x1x20000 .f32) : IVec S20000 32 := (Host.sort2 S20000 0 comparator_f32_i32_d0 (Host.negf (flatS s)) nums).2
/-- The same numbers, a negative one counted from the end. -/
def orderN (s : FVec F S1x1x20000 .f32) : IVec S20000 32 :=
  select (cmpi .slt (order s) (broadcastInDim S20000 ![] bcast_S_S20000 (constantI S_ 32 0#32)))
    (addi (order s) (broadcastInDim S20000 ![] bcast_S_S20000 (constantI S_ 32 20000#32))) (order s)
/-- Each row's place in that order. -/
def place (s : FVec F S1x1x20000 .f32) : IVec S20000 32 :=
  Host.scatter scatter_S20000_S20000x1_S20000_n_0_0_1 (fun _ b => b) (broadcastInDim S20000 ![] bcast_S_S20000 (constantI S_ 32 0#32))
    (broadcastInDim S20000x1 ![0] bcast_S20000_S20000x1_0 (orderN s)) nums
/-- The keys of rows without overlap: a large number plus the row's. -/
def bigV : FVec F S20000 .f32 :=
  addf (broadcastInDim S20000 ![] bcast_S_S20000 (constant S_ .f32 0x49800000#32)) (sitofp .f32 nums)
/-- The keys of rows with overlap: the place where the score is positive, the large key where not. -/
def keyV (s : FVec F S1x1x20000 .f32) : FVec F S20000 .f32 :=
  select (cmpf .ogt (flatS s) (broadcastInDim S20000 ![] bcast_S_S20000 (constant S_ .f32 0x00000000#32))) (sitofp .f32 (place s)) bigV
/-- The large keys as a row. -/
def rowBig : FVec F S1x20000 .f32 := broadcastInDim S1x20000 ![1] bcast_S20000_S1x20000_1 bigV
/-- The keys as a row. -/
def rowKey (s : FVec F S1x1x20000 .f32) : FVec F S1x20000 .f32 := broadcastInDim S1x20000 ![1] bcast_S20000_S1x20000_1 (keyV s)
/-- A row of 20000, filled up to 20480 with a constant and laid out in eight rows: entry `(a, l)` is number `8 * l + a`. -/
def table (fill : BitVec 32) (x : FVec F S1x20000 .f32) : FVec F S8x2560 .f32 :=
  transpose S8x2560 [1, 0] (shapeCast S2560x8 (pad S1x20480 ![0, 0] ![0, 480] ![0, 0] x (constant S_ .f32 fill) pads_S1x20000_S1x20480_000_04800 h_S_)
    shapeCasts_S1x20480_S2560x8) transposes_S2560x8_S8x2560_1_0
/-- A row of 20000 in blocks of 1000. -/
def blocks (x : FVec F S1x20000 .f32) : FVec F S20x1x1000 .f32 := shapeCast S20x1x1000 x shapeCasts_S1x20000_S20x1x1000
/-- The first 1000 of a row. -/
def first (x : FVec F S1x20000 .f32) : FVec F S1x1x1000 .f32 :=
  broadcastInDim S1x1x1000 ![1, 2] bcast_S1x1000_S1x1x1000_1_2 (extractStridedSlice S1x1000 ![0, 0] x slices_S1x20000_S1x1000_0_0)
/-- Seven rows one above the other. -/
def stack7 (x0 x1 x2 x3 x4 x5 x6 : FVec F S1x1x1000 .f32) : FVec F S7x1x1000 .f32 :=
  concatenate S7x1x1000 0 [⟨S1x1x1000, x0⟩, ⟨S1x1x1000, x1⟩, ⟨S1x1x1000, x2⟩, ⟨S1x1x1000, x3⟩, ⟨S1x1x1000, x4⟩, ⟨S1x1x1000, x5⟩, ⟨S1x1x1000, x6⟩]
    concatenates_S1x1x1000_S1x1x1000_S1x1x1000_S1x1x1000_S1x1x1000_S1x1x1000_S1x1x1000_S7x1x1000_d0
/-- The stack of equal rows. -/
theorem stack7_congr {x0 x1 x2 x3 x4 x5 x6 y0 y1 y2 y3 y4 y5 y6 : FVec F S1x1x1000 .f32} (h0 : x0 = y0) (h1 : x1 = y1) (h2 : x2 = y2) (h3 : x3 = y3)
    (h4 : x4 = y4) (h5 : x5 = y5) (h6 : x6 = y6) : stack7 x0 x1 x2 x3 x4 x5 x6 = stack7 y0 y1 y2 y3 y4 y5 y6 := by
  rw [h0, h1, h2, h3, h4, h5, h6]
/-- The first 1000 of the seven rows, one above the other. -/
def heads (b : FVec F S1x4x20000 .f32) (s : FVec F S1x1x20000 .f32) : FVec F S7x1x1000 .f32 :=
  stack7 (first (rowX1 b)) (first (rowY1 b)) (first (rowX2 b)) (first (rowY2 b)) (first (rowAr b)) (first (rowKey s)) (first rowBig)
/-- The features in blocks of 1000 columns. -/
def featB (f : FVec F S1x256x20000 .f32) : FVec F S20x256x1000 .f32 :=
  transpose S20x256x1000 [1, 0, 2] (shapeCast S256x20x1000 (shapeCast S256x20000 f shapeCasts_S1x256x20000_S256x20000) shapeCasts_S256x20000_S256x20x1000)
    transposes_S256x20x1000_S20x256x1000_1_0_2

variable (m : (ℓ : Loc nD τ sig) → Buf (Elt F) ℓ) (c : Dev nD)

/-- An argument as launched. -/
abbrev arg (r : Ref sig .tc) : Buf (Elt F) ((c : Thread nD τ).loc r) := m ((c : Thread nD τ).loc r)

/-- The table `x1`. -/
theorem V_tab_x1 : V m c main_v37 = table 0x00000000#32 (rowX1 (arg m c main_arg0)) := by
  show StableHlo.after (List.flatten _) _ _ = _
  simp only [List.flatten_cons, List.flatten_nil, List.append_nil]
  after_reads_simp
  rfl
/-- The blocks of `x1`. -/
theorem V_blk_x1 : V m c main_v71 = blocks (rowX1 (arg m c main_arg0)) := by
  show StableHlo.after (List.flatten _) _ _ = _
  simp only [List.flatten_cons, List.flatten_nil, List.append_nil]
  after_reads_simp
  rfl
/-- The table `y1`. -/
theorem V_tab_y1 : V m c main_v40 = table 0x00000000#32 (rowY1 (arg m c main_arg0)) := by
  show StableHlo.after (List.flatten _) _ _ = _
  simp only [List.flatten_cons, List.flatten_nil, List.append_nil]
  after_reads_simp
  rfl
/-- The blocks of `y1`. -/
theorem V_blk_y1 : V m c main_v72 = blocks (rowY1 (arg m c main_arg0)) := by
  show StableHlo.after (List.flatten _) _ _ = _
  simp only [List.flatten_cons, List.flatten_nil, List.append_nil]
  after_reads_simp
  rfl
/-- The table `x2`. -/
theorem V_tab_x2 : V m c main_v43 = table 0x00000000#32 (rowX2 (arg m c main_arg0)) := by
  show StableHlo.after (List.flatten _) _ _ = _
  simp only [List.flatten_cons, List.flatten_nil, List.append_nil]
  after_reads_simp
  rfl
/-- The blocks of `x2`. -/
theorem V_blk_x2 : V m c main_v73 = blocks (rowX2 (arg m c main_arg0)) := by
  show StableHlo.after (List.flatten _) _ _ = _
  simp only [List.flatten_cons, List.flatten_nil, List.append_nil]
  after_reads_simp
  rfl
/-- The table `y2`. -/
theorem V_tab_y2 : V m c main_v46 = table 0x00000000#32 (rowY2 (arg m c main_arg0)) := by
  show StableHlo.after (List.flatten _) _ _ = _
  simp only [List.flatten_cons, List.flatten_nil, List.append_nil]
  after_reads_simp
  rfl
/-- The blocks of `y2`. -/
theorem V_blk_y2 : V m c main_v74 = blocks (rowY2 (arg m c main_arg0)) := by
  show StableHlo.after (List.flatten _) _ _ = _
  simp only [List.flatten_cons, List.flatten_nil, List.append_nil]
  after_reads_simp
  rfl
/-- The table `ar`. -/
theorem V_tab_ar : V m c main_v49 = table 0x00000000#32 (rowAr (arg m c main_arg0)) := by
  show StableHlo.after (List.flatten _) _ _ = _
  simp only [List.flatten_cons, List.flatten_nil, List.append_nil]
  after_reads_simp
  rfl
/-- The blocks of `ar`. -/
theorem V_blk_ar : V m c main_v75 = blocks (rowAr (arg m c main_arg0)) := by
  show StableHlo.after (List.flatten _) _ _ = _
  simp only [List.flatten_cons, List.flatten_nil, List.append_nil]
  after_reads_simp
  rfl
/-- The table of the overlapping rows' keys. -/
theorem V_tab_key : V m c main_v52 = table 0x4B800000#32 (rowKey (arg m c main_arg1)) := by
  show StableHlo.after (List.flatten _) _ _ = _
  simp only [List.flatten_cons, List.flatten_nil, List.append_nil]
  after_reads_simp
  rfl
/-- The table of the other rows' keys. -/
theorem V_tab_big : V m c main_v55 = table 0x4B800000#32 rowBig := by
  show StableHlo.after (List.flatten _) _ _ = _
  simp only [List.flatten_cons, List.flatten_nil, List.append_nil]
  after_reads_simp
  rfl
/-- The first rows. -/
theorem V_heads : V m c main_v70 = heads (arg m c main_arg0) (arg m c main_arg1) := by
  show StableHlo.after (List.flatten _) _ _ = _
  simp only [List.flatten_cons, List.flatten_nil, List.append_nil]
  after_reads_simp
  refine stack7_congr (F := F) (x0 := StableHlo.upto (Val := Elt F) _ _ 92 (Proc.devRef .tc main_v63)) (x1 := StableHlo.upto (Val := Elt F) _ _ 92 (Proc.devRef .tc main_v64)) (x2 := StableHlo.upto (Val := Elt F) _ _ 92 (Proc.devRef .tc main_v65)) (x3 := StableHlo.upto (Val := Elt F) _ _ 92 (Proc.devRef .tc main_v66)) (x4 := StableHlo.upto (Val := Elt F) _ _ 92 (Proc.devRef .tc main_v67)) (x5 := StableHlo.upto (Val := Elt F) _ _ 92 (Proc.devRef .tc main_v68)) (x6 := StableHlo.upto (Val := Elt F) _ _ 92 (Proc.devRef .tc main_v69)) ?_ ?_ ?_ ?_ ?_ ?_ ?_
  all_goals after_reads_simp
  all_goals rfl
/-- The features. -/
theorem V_feat : V m c main_v78 = featB (arg m c main_arg2) := by
  show StableHlo.after (List.flatten _) _ _ = _
  simp only [List.flatten_cons, List.flatten_nil, List.append_nil]
  after_reads_simp
  rfl
/-- A bias as a column. -/
theorem V_bias4 : V m c main_v79 = broadcastInDim S6x256x1 ![0, 1] bcast_S6x256_S6x256x1_0_1 (arg m c main_arg4) := by
  show StableHlo.after (List.flatten _) _ _ = _
  simp only [List.flatten_cons, List.flatten_nil, List.append_nil]
  after_reads_simp
/-- A bias as a column. -/
theorem V_bias6 : V m c main_v80 = broadcastInDim S3x1 ![0] bcast_S3_S3x1_0 (arg m c main_arg6) := by
  show StableHlo.after (List.flatten _) _ _ = _
  simp only [List.flatten_cons, List.flatten_nil, List.append_nil]
  after_reads_simp
/-- A bias as a column. -/
theorem V_bias8 : V m c main_v81 = broadcastInDim S4x256x1 ![0, 1] bcast_S4x256_S4x256x1_0_1 (arg m c main_arg8) := by
  show StableHlo.after (List.flatten _) _ _ = _
  simp only [List.flatten_cons, List.flatten_nil, List.append_nil]
  after_reads_simp
/-- A bias as a column. -/
theorem V_bias10 : V m c main_v82 = broadcastInDim S1x1 ![0] bcast_S1_S1x1_0 (arg m c main_arg10) := by
  show StableHlo.after (List.flatten _) _ _ = _
  simp only [List.flatten_cons, List.flatten_nil, List.append_nil]
  after_reads_simp
/-- A bias as a column. -/
theorem V_bias12 : V m c main_v83 = broadcastInDim S6x256x1 ![0, 1] bcast_S6x256_S6x256x1_0_1 (arg m c main_arg12) := by
  show StableHlo.after (List.flatten _) _ _ = _
  simp only [List.flatten_cons, List.flatten_nil, List.append_nil]
  after_reads_simp
/-- A bias as a column. -/
theorem V_bias14 : V m c main_v84 = broadcastInDim S4x1 ![0] bcast_S4_S4x1_0 (arg m c main_arg14) := by
  show StableHlo.after (List.flatten _) _ _ = _
  simp only [List.flatten_cons, List.flatten_nil, List.append_nil]
  after_reads_simp
/-- A weight. -/
theorem V_weight3 : V m c main_arg3 = arg m c main_arg3 := by
  show StableHlo.after (List.flatten _) _ _ = _
  simp only [List.flatten_cons, List.flatten_nil, List.append_nil]
  after_reads_simp
/-- A weight. -/
theorem V_weight5 : V m c main_arg5 = arg m c main_arg5 := by
  show StableHlo.after (List.flatten _) _ _ = _
  simp only [List.flatten_cons, List.flatten_nil, List.append_nil]
  after_reads_simp
/-- A weight. -/
theorem V_weight7 : V m c main_arg7 = arg m c main_arg7 := by
  show StableHlo.after (List.flatten _) _ _ = _
  simp only [List.flatten_cons, List.flatten_nil, List.append_nil]
  after_reads_simp
/-- A weight. -/
theorem V_weight9 : V m c main_arg9 = arg m c main_arg9 := by
  show StableHlo.after (List.flatten _) _ _ = _
  simp only [List.flatten_cons, List.flatten_nil, List.append_nil]
  after_reads_simp
/-- A weight. -/
theorem V_weight11 : V m c main_arg11 = arg m c main_arg11 := by
  show StableHlo.after (List.flatten _) _ _ = _
  simp only [List.flatten_cons, List.flatten_nil, List.append_nil]
  after_reads_simp
/-- A weight. -/
theorem V_weight13 : V m c main_arg13 = arg m c main_arg13 := by
  show StableHlo.after (List.flatten _) _ _ = _
  simp only [List.flatten_cons, List.flatten_nil, List.append_nil]
  after_reads_simp

end Cert.Peak

end
-- ==== Proof.Blocks.lean ====
/- The blocks the body is given at a point, and the four arrays it leaves. -/
module

public import proofs.«01_k».proof.Proof.ReadK
public import proofs.«01_k».proof.Proof.Prefix
public import Idealize.ShloMosaic.Lib.Pipeline.ValueKit.Geometry

@[expose] public section

set_option maxRecDepth 16384
set_option maxHeartbeats 4000000

noncomputable section

namespace Cert.Peak

open Idealize.ShloMosaic Idealize.ShloMosaic.TcCoe Idealize.ShloMosaic.Tactic Cert.KernelIdeal Cert.KernelIdeal.Gen
open Cert.KernelIdeal.Facts Idealize.ShloMosaic.Pipeline

variable (m : (ℓ : Loc nD τ sig) → Buf (Elt Ideal) ℓ) (c : Dev nD)

/-- A window that moves does so by one block of the leading axis at each point. -/
theorem idx_row : ∀ t : Fin cfg0.N, win0_0.index t = ![t.val, 0, 0] ∧ win0_1.index t = ![t.val, 0, 0] ∧ win0_2.index t = ![t.val, 0, 0] ∧ win0_3.index t = ![t.val, 0, 0] ∧ win0_4.index t = ![t.val, 0, 0] ∧ win0_13.index t = ![t.val, 0, 0] ∧ win0_26.index t = ![t.val, 0, 0] ∧ win0_27.index t = ![t.val, 0, 0] ∧ win0_28.index t = ![t.val, 0, 0] ∧ win0_29.index t = ![t.val, 0, 0] :=
  (by decide +kernel : ∀ t : Fin grid0.N, _)

/-- The other input windows stay on their whole array. -/
theorem idx_whole : ∀ t : Fin cfg0.N, win0_5.index t = ![0, 0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_14.index t = ![0, 0, 0] ∧ win0_15.index t = ![0, 0, 0] ∧ win0_16.index t = ![0, 0] ∧ win0_17.index t = ![0, 0] ∧ win0_18.index t = ![0, 0, 0] ∧ win0_19.index t = ![0, 0, 0] ∧ win0_20.index t = ![0, 0] ∧ win0_21.index t = ![0, 0] ∧ win0_22.index t = ![0, 0, 0] ∧ win0_23.index t = ![0, 0, 0] ∧ win0_24.index t = ![0, 0] ∧ win0_25.index t = ![0, 0] :=
  (by decide +kernel : ∀ t : Fin grid0.N, _)

/-- A window that stays gives the body its whole array. -/
theorem iblk_whole (t : Fin cfg0.N) : iblk m c 5 t = V m c main_v70 ∧ iblk m c 6 t = V m c main_v37 ∧ iblk m c 7 t = V m c main_v40 ∧ iblk m c 8 t = V m c main_v43 ∧ iblk m c 9 t = V m c main_v46 ∧ iblk m c 10 t = V m c main_v49 ∧ iblk m c 11 t = V m c main_v52 ∧ iblk m c 12 t = V m c main_v55 ∧ iblk m c 14 t = V m c main_arg3 ∧ iblk m c 15 t = V m c main_v79 ∧ iblk m c 16 t = V m c main_arg5 ∧ iblk m c 17 t = V m c main_v80 ∧ iblk m c 18 t = V m c main_arg7 ∧ iblk m c 19 t = V m c main_v81 ∧ iblk m c 20 t = V m c main_arg9 ∧ iblk m c 21 t = V m c main_v82 ∧ iblk m c 22 t = V m c main_arg11 ∧ iblk m c 23 t = V m c main_v83 ∧ iblk m c 24 t = V m c main_arg13 ∧ iblk m c 25 t = V m c main_v84 := by
  obtain ⟨e5, e6, e7, e8, e9, e10, e11, e12, e14, e15, e16, e17, e18, e19, e20, e21, e22, e23, e24, e25⟩ := idx_whole t
  refine ⟨?_, ?_, ?_, ?_, ?_, ?_, ?_, ?_, ?_, ?_, ?_, ?_, ?_, ?_, ?_, ?_, ?_, ?_, ?_, ?_⟩ <;>
  · funext j
    blk_simp [iblk]
    congr 1
    blk_ext [e5, e6, e7, e8, e9, e10, e11, e12, e14, e15, e16, e17, e18, e19, e20, e21, e22, e23, e24, e25]

/-- The moving row windows give the body row `t` of their array. -/
theorem iblk_row (t : Fin cfg0.N) (q : Fin 1000) : iblk m c 0 t (ix3 0 0 q) = V m c main_v71 (ix3 t 0 q) ∧ iblk m c 1 t (ix3 0 0 q) = V m c main_v72 (ix3 t 0 q) ∧ iblk m c 2 t (ix3 0 0 q) = V m c main_v73 (ix3 t 0 q) ∧ iblk m c 3 t (ix3 0 0 q) = V m c main_v74 (ix3 t 0 q) ∧ iblk m c 4 t (ix3 0 0 q) = V m c main_v75 (ix3 t 0 q) := by
  obtain ⟨e0, e1, e2, e3, e4, -⟩ := idx_row t
  refine ⟨?_, ?_, ?_, ?_, ?_⟩ <;>
  · blk_simp [iblk]
    congr 1
    blk_ext [e0, e1, e2, e3, e4]

/-- The feature window gives the body slab `t`. -/
theorem iblk_feat (t : Fin cfg0.N) (k : Fin 256) (q : Fin 1000) : iblk m c 13 t (ix3 0 k q) = V m c main_v78 (ix3 t k q) := by
  obtain ⟨-, -, -, -, -, e, -⟩ := idx_row t
  blk_simp [iblk]
  congr 1
  blk_ext [e]

/-- The array behind window 26 ends with what each point left, slab by slab. -/
theorem arr26 : (dats m 0 c).arrAt 26 cfg0.N = fun i => (outsAt0 m c (i 0)).1 (ix3 0 (i 1) (i 2)) := by
  refine (dats m 0 c).arrAt_eq_of_covers 26 _ (by decide +kernel) fun t hf y => ?_
  have e : win0_26.index t = ![t.val, 0, 0] := (idx_row t).2.2.2.2.2.2.1
  blk_simp
  rw [after0_26]
  have h0 : (((cfg0.win 26).blk t).view.emb y) 0 = t := by
    apply Fin.ext
    blk_simp [e]
  have h1 : ((((cfg0.win 26).blk t).view.emb y) 1).val = (y 1).val := by blk_simp [e]
  have h2 : ((((cfg0.win 26).blk t).view.emb y) 2).val = (y 2).val := by blk_simp [e]
  refine (congrArg (outsAt0 m c t).1 ?_).trans (congrArg (fun s => (outsAt0 m c s).1 (ix3 0 (((cfg0.win 26).blk t).view.emb y 1) (((cfg0.win 26).blk t).view.emb y 2))) h0).symm
  funext a
  apply Fin.ext
  match a with
  | ⟨0, _⟩ => exact Nat.lt_one_iff.mp (y 0).isLt
  | ⟨1, _⟩ => exact h1.symm
  | ⟨2, _⟩ => exact h2.symm

/-- The array behind window 27 ends with what each point left, slab by slab. -/
theorem arr27 : (dats m 0 c).arrAt 27 cfg0.N = fun i => (outsAt0 m c (i 0)).2.1 (ix3 0 (i 1) (i 2)) := by
  refine (dats m 0 c).arrAt_eq_of_covers 27 _ (by decide +kernel) fun t hf y => ?_
  have e : win0_27.index t = ![t.val, 0, 0] := (idx_row t).2.2.2.2.2.2.2.1
  blk_simp
  rw [after0_27]
  have h0 : (((cfg0.win 27).blk t).view.emb y) 0 = t := by
    apply Fin.ext
    blk_simp [e]
  have h1 : ((((cfg0.win 27).blk t).view.emb y) 1).val = (y 1).val := by blk_simp [e]
  have h2 : ((((cfg0.win 27).blk t).view.emb y) 2).val = (y 2).val := by blk_simp [e]
  refine (congrArg (outsAt0 m c t).2.1 ?_).trans (congrArg (fun s => (outsAt0 m c s).2.1 (ix3 0 (((cfg0.win 27).blk t).view.emb y 1) (((cfg0.win 27).blk t).view.emb y 2))) h0).symm
  funext a
  apply Fin.ext
  match a with
  | ⟨0, _⟩ => exact Nat.lt_one_iff.mp (y 0).isLt
  | ⟨1, _⟩ => exact h1.symm
  | ⟨2, _⟩ => exact h2.symm

/-- The array behind window 28 ends with what each point left, slab by slab. -/
theorem arr28 : (dats m 0 c).arrAt 28 cfg0.N = fun i => (outsAt0 m c (i 0)).2.2.1 (ix3 0 (i 1) (i 2)) := by
  refine (dats m 0 c).arrAt_eq_of_covers 28 _ (by decide +kernel) fun t hf y => ?_
  have e : win0_28.index t = ![t.val, 0, 0] := (idx_row t).2.2.2.2.2.2.2.2.1
  blk_simp
  rw [after0_28]
  have h0 : (((cfg0.win 28).blk t).view.emb y) 0 = t := by
    apply Fin.ext
    blk_simp [e]
  have h1 : ((((cfg0.win 28).blk t).view.emb y) 1).val = (y 1).val := by blk_simp [e]
  have h2 : ((((cfg0.win 28).blk t).view.emb y) 2).val = (y 2).val := by blk_simp [e]
  refine (congrArg (outsAt0 m c t).2.2.1 ?_).trans (congrArg (fun s => (outsAt0 m c s).2.2.1 (ix3 0 (((cfg0.win 28).blk t).view.emb y 1) (((cfg0.win 28).blk t).view.emb y 2))) h0).symm
  funext a
  apply Fin.ext
  match a with
  | ⟨0, _⟩ => exact Nat.lt_one_iff.mp (y 0).isLt
  | ⟨1, _⟩ => exact h1.symm
  | ⟨2, _⟩ => exact h2.symm

/-- The array behind window 29 ends with what each point left, slab by slab. -/
theorem arr29 : (dats m 0 c).arrAt 29 cfg0.N = fun i => (outsAt0 m c (i 0)).2.2.2 (ix3 0 (i 1) (i 2)) := by
  refine (dats m 0 c).arrAt_eq_of_covers 29 _ (by decide +kernel) fun t hf y => ?_
  have e : win0_29.index t = ![t.val, 0, 0] := (idx_row t).2.2.2.2.2.2.2.2.2
  blk_simp
  rw [after0_29]
  have h0 : (((cfg0.win 29).blk t).view.emb y) 0 = t := by
    apply Fin.ext
    blk_simp [e]
  have h1 : ((((cfg0.win 29).blk t).view.emb y) 1).val = (y 1).val := by blk_simp [e]
  have h2 : ((((cfg0.win 29).blk t).view.emb y) 2).val = (y 2).val := by blk_simp [e]
  refine (congrArg (outsAt0 m c t).2.2.2 ?_).trans (congrArg (fun s => (outsAt0 m c s).2.2.2 (ix3 0 (((cfg0.win 29).blk t).view.emb y 1) (((cfg0.win 29).blk t).view.emb y 2))) h0).symm
  funext a
  apply Fin.ext
  match a with
  | ⟨0, _⟩ => exact Nat.lt_one_iff.mp (y 0).isLt
  | ⟨1, _⟩ => exact h1.symm
  | ⟨2, _⟩ => exact h2.symm

end Cert.Peak
-- ==== Proof.Rank.lean ====
/- The rank of a row in the stable sort by descending score: a sort of the positions by `-score`, and the scatter
   that turns the sorted positions into ranks, read as numbers. -/
module

public import Idealize.ShloMosaic.Lib.SortFacts
public import Idealize.ShloMosaic.Lib.Routing.Ops
public import Idealize.ShloMosaic.PureOps.Ideal
public import Idealize.ShloMosaic.PureOps.Ideal.Laws
public import Idealize.ShloMosaic.Lib.ValueIdx

@[expose] public section

namespace Cert.Peak

open Idealize.ShloMosaic Idealize.ShloMosaic.ValueIdx Idealize.ShloMosaic.Routing

section Order
variable {α : Type} [LinearOrder α]

/-- Row `i` stands before row `p` when its key is greater, or the keys are equal and its number is smaller. -/
def Before {n : Nat} (s : Fin n → α) (i p : Fin n) : Prop := s p < s i ∨ (s i = s p ∧ i < p)

/-- No two rows each come before the other. -/
theorem Before.asymm {n : Nat} {s : Fin n → α} {i p : Fin n} (h : Before s i p) : ¬ Before s p i := by
  rintro (h' | ⟨h', h''⟩) <;> rcases h with h | ⟨h, h2⟩
  · exact lt_asymm h h'
  · rw [h] at h'; exact lt_irrefl _ h'
  · rw [h'] at h; exact lt_irrefl _ h
  · exact lt_asymm h2 h''

/-- Of two different rows one comes before the other. -/
theorem Before.total {n : Nat} (s : Fin n → α) {i p : Fin n} (h : i ≠ p) : Before s i p ∨ Before s p i := by
  rcases lt_trichotomy (s i) (s p) with h1 | h1 | h1
  · exact Or.inr (Or.inl h1)
  · rcases lt_or_gt_of_ne h with h2 | h2
    · exact Or.inl (Or.inr ⟨h1, h2⟩)
    · exact Or.inr (Or.inr ⟨h1.symm, h2⟩)
  · exact Or.inl (Or.inl h1)

/-- A stable insertion of a row smaller in number than every row of an ordered list keeps the list ordered. -/
theorem pairwise_insert {n : Nat} (s : Fin n → α) (a : Fin n) (l : List (Fin n)) (ha : ∀ b ∈ l, a < b)
    (hl : l.Pairwise (Before s)) : (insertBefore (fun x y => decide (s y < s x)) a l).Pairwise (Before s) := by
  induction l with
  | nil => simp [insertBefore]
  | cons b l ih =>
    obtain ⟨hb, hl'⟩ := List.pairwise_cons.mp hl
    unfold insertBefore
    split
    · next h =>
      have hba : s a < s b := by simpa using h
      refine List.pairwise_cons.mpr ⟨fun x hx => ?_, ih (fun x hx => ha x (List.mem_cons_of_mem _ hx)) hl'⟩
      rcases List.mem_cons.mp ((perm_insertBefore _ a l).mem_iff.mp hx) with rfl | hx'
      · exact Or.inl hba
      · exact hb x hx'
    · next h =>
      have hab : s b ≤ s a := by simpa using h
      refine List.pairwise_cons.mpr ⟨fun x hx => ?_, hl⟩
      have hax := ha x hx
      have hle : s x ≤ s a := by
        rcases List.mem_cons.mp hx with rfl | hx'
        · exact hab
        · rcases hb x hx' with h1 | ⟨h1, -⟩
          · exact h1.le.trans hab
          · exact h1.symm.le.trans hab
      rcases hle.lt_or_eq with h1 | h1
      · exact Or.inl h1
      · exact Or.inr ⟨h1.symm, hax⟩

/-- The stable sort of the positions by descending key lists them in the order `Before`. -/
theorem pairwise_sort {n : Nat} (s : Fin n → α) (l : List (Fin n)) (hl : l.Pairwise (· < ·)) :
    (stableSort (fun x y => decide (s y < s x)) l).Pairwise (Before s) := by
  induction l with
  | nil => simp [stableSort]
  | cons a l ih =>
    obtain ⟨ha, hl'⟩ := List.pairwise_cons.mp hl
    unfold stableSort
    exact pairwise_insert s a _ (fun b hb => ha b ((perm_stableSort _ l).mem_iff.mp hb)) (ih hl')

/-- The place of a row in the stable sort by descending key. -/
noncomputable def rank {n : Nat} (s : Fin n → α) : Fin n ≃ Fin n :=
  (Equiv.ofBijective (sortedFrom fun x y => decide (s y < s x))
    ⟨sortedFrom_injective _, sortedFrom_surjective _⟩).symm

/-- The row at place `k` of the sorted order has `k` as its rank. -/
theorem rank_sorted {n : Nat} (s : Fin n → α) (k : Fin n) :
    rank s (sortedFrom (fun x y => decide (s y < s x)) k) = k :=
  (Equiv.ofBijective (sortedFrom fun x y => decide (s y < s x))
    ⟨sortedFrom_injective _, sortedFrom_surjective _⟩).symm_apply_apply k

/-- The sorted order at a row's rank is the row. -/
theorem sorted_rank {n : Nat} (s : Fin n → α) (i : Fin n) :
    sortedFrom (fun x y => decide (s y < s x)) (rank s i) = i :=
  (Equiv.ofBijective (sortedFrom fun x y => decide (s y < s x))
    ⟨sortedFrom_injective _, sortedFrom_surjective _⟩).apply_symm_apply i

/-- Rows at rising places of the sorted order come one before the other. -/
theorem before_of_lt {n : Nat} (s : Fin n → α) {k l : Fin n} (h : k < l) :
    Before s (sortedFrom (fun x y => decide (s y < s x)) k) (sortedFrom (fun x y => decide (s y < s x)) l) := by
  have hp : ∀ a b : Fin (sortPositions n fun x y => decide (s y < s x)).length, a < b →
      Before s ((sortPositions n _).get a) ((sortPositions n _).get b) :=
    List.pairwise_iff_get.mp (pairwise_sort s (List.finRange n) (List.pairwise_lt_finRange n))
  exact hp (k.cast (length_sortPositions n _).symm) (l.cast (length_sortPositions n _).symm) h

/-- Ranks are ordered as the rows are: the smaller rank is the row that stands before. -/
theorem rank_lt_iff {n : Nat} (s : Fin n → α) (i p : Fin n) : rank s i < rank s p ↔ Before s i p := by
  have key : ∀ i p, rank s i < rank s p → Before s i p := fun i p h => by
    have := before_of_lt s h
    rwa [sorted_rank, sorted_rank] at this
  refine ⟨key i p, fun h => ?_⟩
  by_contra hn
  rcases (not_lt.mp hn).lt_or_eq with h1 | h1
  · exact h.asymm (key p i h1)
  · have := (rank s).injective h1
    subst this
    exact h.asymm h

end Order

/-- A fold of steps of which one writes `v` at `x` and the others leave `x` alone ends with `v` there. -/
theorem foldl_write {ι κ β : Type} [DecidableEq ι] (step : (κ → β) → ι → κ → β) (x : κ) (n0 : ι) (v : β)
    (h0 : ∀ r, step r n0 x = v) (h1 : ∀ r n, n ≠ n0 → step r n x = r x) (l : List ι) :
    ∀ r : κ → β, (n0 ∈ l ∨ r x = v) → l.foldl step r x = v := by
  induction l with
  | nil => intro r h; rcases h with h | h; · cases h
           exact h
  | cons a l ih =>
    intro r h
    refine ih _ ?_
    by_cases ha : a = n0
    · subst ha; exact Or.inr (h0 r)
    · rcases h with h | h
      · rcases List.mem_cons.mp h with h | h
        · exact absurd h.symm ha
        · exact Or.inl h
      · exact Or.inr ((h1 r a ha).trans h)

/-- `x.at[idx].set(upd)` where the indices are the values of an injective map: at the index of update `k` stands update `k`. -/
theorem scatter_set {N : Nat} (d : ScatterDims (shape1 N) (shape2 N 1) (shape1 N)) (hiw : d.insertedWindowDims = [0])
    (hsd : d.scatterDimsToOperandDims = [0]) (hivd : d.indexVectorDim = 1) (x0 : IVec (shape1 N) 32)
    (idx : IVec (shape2 N 1) 32) (upd : IVec (shape1 N) 32) (σ : Fin N → Fin N) (hσ : Function.Injective σ)
    (hg : ∀ i : Fin N, idx (ix2 i (0 : Fin 1)) = BitVec.ofNat 32 (σ i).val) (hN : N ≤ 2 ^ 31) (k : Fin N) :
    Host.scatter d (fun _ b => b) x0 idx upd (ix1 (σ k)) = upd (ix1 k) := by
  have hl := fun i : Fin N => scatter_lands d hiw hsd hivd idx (fun n => if h : n < N then (σ ⟨n, h⟩).val else 0)
    (fun i => by rw [hg, dif_pos i.isLt]) (fun i => by rw [dif_pos i.isLt]; exact lt_of_lt_of_le (σ i).isLt hN) i (σ k)
  have hl' : ∀ i : Fin N, d.resultIdx? (ix1 i) idx = some (ix1 (σ k)) ↔ i = k := fun i => by
    rw [hl i, dif_pos i.isLt]
    exact ⟨fun h => hσ (Fin.ext h), fun h => by rw [h]⟩
  unfold Host.scatter
  refine foldl_write _ (ix1 (σ k)) (k.cast (numel1 N).symm) _ (fun r => ?_) (fun r n hn => ?_) _ _
    (Or.inl (List.mem_finRange _))
  · have h2 := (hl' k).2 rfl
    rw [symm1]
    simp only [Fin.cast_cast, Fin.cast_eq_self]
    rw [h2]
    simp
  · have h2 := (hl' (n.cast (numel1 N))).not.2 (fun e => hn (by rw [← e]; rfl))
    rw [symm1]
    generalize d.resultIdx? (ix1 (n.cast (numel1 N))) idx = o at h2 ⊢
    cases o with
    | none => rfl
    | some i => dsimp only; rw [if_neg fun e => h2 (by rw [e])]

end Cert.Peak
-- ==== Proof.Tables.lean ====
/- The kernel's arrays read at an index: the tables, the blocks, the heads, the features and the keys. -/
module

public import proofs.«01_k».proof.Proof.Prefix
public import proofs.«01_k».proof.Proof.Rank
public import proofs.«01_k».proof.Proof.Key
public import Idealize.ShloMosaic.Lib.Pointwise

@[expose] public section

set_option maxRecDepth 16384

noncomputable section

namespace Cert.Peak

open Idealize.ShloMosaic Idealize.ShloMosaic.Routing Idealize.ShloMosaic.TcCoe Idealize.ShloMosaic.Tactic Cert.KernelIdeal Cert.KernelIdeal.Gen
open Cert.KernelIdeal.Facts

/-- Row `q` of block `t`. -/
def at1000 (t : Fin 20) (q : Fin 1000) : Fin 20000 := ⟨t.val * 1000 + q.val, by omega⟩

/-- The number of a table's entry. -/
abbrev num8 (a : Fin 8) (l : Fin 2560) : Nat := l.val * 8 + a.val

/-- The rows of a box at a column. -/
theorem rows_apply (b : FVec Ideal S1x4x20000 .f32) (i : Fin 20000) :
    rowX1 b (ix2 0 i) = b (ix3 0 0 i) ∧ rowY1 b (ix2 0 i) = b (ix3 0 1 i) ∧ rowX2 b (ix2 0 i) = b (ix3 0 2 i) ∧ rowY2 b (ix2 0 i) = b (ix3 0 3 i)
      ∧ rowAr b (ix2 0 i) = (b (ix3 0 2 i) - b (ix3 0 0 i)) * (b (ix3 0 3 i) - b (ix3 0 1 i)) := by
  refine ⟨?_, ?_, ?_, ?_, ?_⟩ <;> pointwise [rowAr, rowX1, rowY1, rowX2, rowY2]

/-- A row in blocks. -/
theorem blocks_apply (x : FVec Ideal S1x20000 .f32) (t : Fin 20) (q : Fin 1000) : blocks x (ix3 t 0 q) = x (ix2 0 (at1000 t q)) := by
  pointwise [blocks]
  rfl

/-- The first block of a row. -/
theorem first_apply (x : FVec Ideal S1x20000 .f32) (q : Fin 1000) : first x (ix3 0 0 q) = x (ix2 0 (at1000 0 q)) := by
  pointwise [first]
  exact congrArg x (congrArg (ix2 0) (Fin.ext (by show q.val = 0 * 1000 + q.val; omega)))

/-- The features in blocks. -/
theorem featB_apply (f : FVec Ideal S1x256x20000 .f32) (t : Fin 20) (k : Fin 256) (q : Fin 1000) : featB f (ix3 t k q) = f (ix3 0 k (at1000 t q)) := by
  pointwise [featB]
  rfl

/-- A stack's rows. -/
theorem stack7_apply (x0 x1 x2 x3 x4 x5 x6 : FVec Ideal S1x1x1000 .f32) (q : Fin 1000) :
    stack7 x0 x1 x2 x3 x4 x5 x6 (ix3 0 0 q) = x0 (ix3 0 0 q) ∧ stack7 x0 x1 x2 x3 x4 x5 x6 (ix3 1 0 q) = x1 (ix3 0 0 q)
      ∧ stack7 x0 x1 x2 x3 x4 x5 x6 (ix3 2 0 q) = x2 (ix3 0 0 q) ∧ stack7 x0 x1 x2 x3 x4 x5 x6 (ix3 3 0 q) = x3 (ix3 0 0 q)
      ∧ stack7 x0 x1 x2 x3 x4 x5 x6 (ix3 4 0 q) = x4 (ix3 0 0 q) ∧ stack7 x0 x1 x2 x3 x4 x5 x6 (ix3 5 0 q) = x5 (ix3 0 0 q)
      ∧ stack7 x0 x1 x2 x3 x4 x5 x6 (ix3 6 0 q) = x6 (ix3 0 0 q) := by
  refine ⟨?_, ?_, ?_, ?_, ?_, ?_, ?_⟩ <;> pointwise [stack7]

/-- A table at an entry. -/
theorem table_apply (fill : BitVec 32) (x : FVec Ideal S1x20000 .f32) (a : Fin 8) (l : Fin 2560) :
    table fill x (ix2 a l) = if h : num8 a l < 20000 then x (ix2 0 ⟨num8 a l, h⟩) else Ideal.ofBits .f32 fill := by
  pointwise [table]

/-- The large number of the keys. -/
theorem big_eq : Ideal.ofBits .f32 0x49800000#32 = ((1048576 : ℝ) : EReal) := by
  simp [Ideal.ofBits, Ideal.ieee]
  rw [← EReal.coe_mul]
  norm_num

/-- The filler of the key tables. -/
theorem fill_eq : Ideal.ofBits .f32 0x4B800000#32 = ((16777216 : ℝ) : EReal) := by
  simp [Ideal.ofBits, Ideal.ieee]
  rw [← EReal.coe_mul]
  norm_num

/-- A row's number as a word. -/
theorem toInt_num {k : Nat} (h : k < 20000) : (BitVec.ofNat 32 k).toInt = k := by
  have e : (BitVec.ofNat 32 k).toNat = k := by
    rw [BitVec.toNat_ofNat]
    omega
  rw [BitVec.toInt_eq_toNat_of_lt (by omega), e]

/-- The large key of a row. -/
theorem rowBig_apply (i : Fin 20000) : rowBig (F := Ideal) (ix2 0 i) = ((1048576 + (i.val : ℝ) : ℝ) : EReal) := by
  pointwise [rowBig, bigV, nums]
  rw [big_eq]
  show ((1048576 : ℝ) : EReal) + (((BitVec.ofNat 32 i.val).toInt : ℝ) : EReal) = _
  rw [toInt_num i.isLt, ← EReal.coe_add]
  norm_cast

/-- The comparator of the sort: less than. -/
theorem comparator_eq (l r : Ideal .f32 × BitVec 32) : comparator_f32_i32_d0 (F := Ideal) l r = BitVec.ofBool (decide ((l.1 : EReal) < r.1)) := by
  have h0 : (FloatOps.ofBits (F := Ideal) .f32 0x00000000#32 : EReal) = 0 := Ideal.ofBits_zero_f32
  unfold comparator_f32_i32_d0
  simp only [h0]
  have h1 : ∀ x : EReal, Scalar.select (FloatOps.cmpf (F := Ideal) (φ := .f32) CmpFPredicate.une x x) (FloatOps.ofBits (F := Ideal) .f32 2143289344#32)
      (Scalar.select (FloatOps.cmpf (F := Ideal) (φ := .f32) CmpFPredicate.oeq x 0) (0 : EReal) x) = x := fun x => by
    have e1 : FloatOps.cmpf (F := Ideal) (φ := .f32) CmpFPredicate.une x x = 0#1 := by
      show Ideal.cmp .une x x = 0#1
      simp [Ideal.cmp]
    have e2 : FloatOps.cmpf (F := Ideal) (φ := .f32) CmpFPredicate.oeq x 0 = BitVec.ofBool (decide (x = 0)) := rfl
    rw [e1, e2]
    by_cases h : x = 0 <;> simp [Scalar.select, h]
  erw [h1, h1]
  rfl

/-- A row's place in the order of descending score. -/
theorem place_eq (s : FVec Ideal S1x1x20000 .f32) (i : Fin 20000) : place s (ix1 i) = BitVec.ofNat 32 (rank (fun i : Fin 20000 => s (ix3 0 0 i)) i).val := by
  have ho : ∀ k : Fin 20000, order s (ix1 k) = BitVec.ofNat 32 (sortedFrom (fun x y => decide (s (ix3 0 0 y) < s (ix3 0 0 x))) k).val := fun k => by
    have hd : 0 < S20000.rank := Nat.zero_lt_one
    have e : ∀ c : Fin 20000, (ix1 k : S20000.Idx).along (⟨0, hd⟩ : Fin S20000.rank) c = ix1 c := fun c => by
      funext d
      match d with
      | ⟨0, _⟩ => rfl
    have hf : ∀ c : Fin 20000, flatS s (ix1 c) = s (ix3 0 0 c) := fun c => by pointwise [flatS]
    have hn : ∀ c : Fin 20000, nums (ix1 c) = BitVec.ofNat 32 c.val := fun c => by pointwise [nums]
    have hc : (fun a b : Fin 20000 => comparator_f32_i32_d0 (F := Ideal) (Host.negf (flatS s) ((ix1 k : S20000.Idx).along (⟨0, hd⟩ : Fin S20000.rank) a), nums ((ix1 k : S20000.Idx).along (⟨0, hd⟩ : Fin S20000.rank) a))
          (Host.negf (flatS s) ((ix1 k : S20000.Idx).along (⟨0, hd⟩ : Fin S20000.rank) b), nums ((ix1 k : S20000.Idx).along (⟨0, hd⟩ : Fin S20000.rank) b)) == 1#1)
        = fun x y => decide (s (ix3 0 0 y) < s (ix3 0 0 x)) := by
      funext a b
      rw [comparator_eq, e, e]
      have h : ((Host.negf (flatS s) (ix1 a) : EReal) < Host.negf (flatS s) (ix1 b)) ↔ s (ix3 0 0 b) < s (ix3 0 0 a) := by
        show -(flatS s (ix1 a) : EReal) < -(flatS s (ix1 b) : EReal) ↔ _
        rw [EReal.neg_lt_neg_iff, hf, hf]
      rw [Bool.eq_iff_iff]
      simp only [h]
      by_cases h' : s (ix3 0 0 b) < s (ix3 0 0 a) <;> simp [h']
    unfold order Host.sort2
    rw [dif_pos hd]
    refine (congrArg (fun f : Fin 20000 → Fin 20000 → Bool => nums ((ix1 k : S20000.Idx).along (⟨0, hd⟩ : Fin S20000.rank) (sortedFrom f k))) hc).trans ?_
    exact (congrArg nums (e _)).trans (hn _)
  have hN : ∀ k : Fin 20000, orderN s (ix1 k) = order s (ix1 k) := fun k => by
    have h : IntOp.cmpi CmpIPredicate.slt (order s (ix1 k)) 0#32 = 0#1 := by
      show BitVec.ofBool ((order s (ix1 k)).slt 0#32) = 0#1
      have : ¬ (order s (ix1 k)).slt 0#32 = true := by
        rw [BitVec.slt_iff_toInt_lt, ho, toInt_num (Fin.isLt _)]
        exact not_lt.mpr (Int.natCast_nonneg _)
      rw [Bool.not_eq_true] at this
      rw [this]
      rfl
    pointwise [orderN]
    rw [h]
    rfl
  have h := scatter_set scatter_S20000_S20000x1_S20000_n_0_0_1 rfl rfl rfl (broadcastInDim S20000 ![] bcast_S_S20000 (constantI S_ 32 0#32))
    (broadcastInDim S20000x1 ![0] bcast_S20000_S20000x1_0 (orderN s)) nums (sortedFrom (fun x y => decide (s (ix3 0 0 y) < s (ix3 0 0 x)))) (sortedFrom_injective _)
    (fun k => ?_) (by norm_num) (rank (fun i : Fin 20000 => s (ix3 0 0 i)) i)
  · rw [sorted_rank] at h
    rw [← ix1_eq_valueIdx, ← ix1_eq_valueIdx] at h
    refine Eq.trans h ?_
    pointwise [nums]
  · rw [← ix2_eq_valueIdx]
    refine Eq.trans ?_ ((hN k).trans (ho k))
    pointwise

/-- A row's key where it overlaps. -/
theorem rowKey_apply (s : FVec Ideal S1x1x20000 .f32) (i : Fin 20000) : rowKey s (ix2 0 i)
    = if 0 < s (ix3 0 0 i) then (((rank (fun i : Fin 20000 => s (ix3 0 0 i)) i).val : ℝ) : EReal) else ((1048576 + (i.val : ℝ) : ℝ) : EReal) := by
  rw [← rowBig_apply]
  pointwise [rowBig, rowKey, keyV, flatS]
  have e : (FloatOps.sitofp (F := Ideal) FTy.f32 (place s (ix1 i)) : EReal) = (((rank (fun i : Fin 20000 => s (ix3 0 0 i)) i).val : ℝ) : EReal) := by
    rw [place_eq]
    show (((BitVec.ofNat 32 _).toInt : ℝ) : EReal) = _
    rw [toInt_num (Fin.isLt _)]
    norm_cast
  rw [e]

end Cert.Peak

end
-- ==== Proof.RefIou.lean ====
/- The reference's overlaps read at an index. -/
module

public import proofs.«01_k».proof.Proof.Gen.ReferenceIdeal.Read
public import proofs.«01_k».proof.Proof.Key
public import Idealize.ShloMosaic.Lib.Pointwise

@[expose] public section

set_option maxRecDepth 16384

noncomputable section

namespace Cert.Peak

open Idealize.ShloMosaic Idealize.ShloMosaic.TcCoe Idealize.ShloMosaic.Tactic Cert.ReferenceIdeal Cert.ReferenceIdeal.Gen Cert.ReferenceIdeal.Read
open Cert.ReferenceIdeal.Facts

/-- A row's box: its corners and its area. -/
def boxOf (x : FVec Ideal S1x4x20000 .f32) (r : Fin 20000) : Box :=
  ⟨x (ix3 0 0 r), x (ix3 0 1 r), x (ix3 0 2 r), x (ix3 0 3 r), (x (ix3 0 2 r) - x (ix3 0 0 r)) * (x (ix3 0 3 r) - x (ix3 0 1 r))⟩

/-- The areas, as rows. -/
theorem v12_apply (x : FVec Ideal S1x4x20000 .f32) (i : Fin 20000) : val_main_v12 (F := Ideal) x (ix2 0 i) = (boxOf x i).ar := by
  pointwise [val_main_v12, val_main_v11, val_main_v10, val_main_v9, val_main_v8, val_main_v7, val_main_v6, val_main_v5, val_main_v4, val_main_v3, val_main_v2, val_main_v0]
  rfl

/-- The areas, as columns. -/
theorem v23_apply (x : FVec Ideal S1x4x20000 .f32) (i : Fin 20000) : val_main_v23 (F := Ideal) x (ix2 0 i) = (boxOf x i).ar := by
  pointwise [val_main_v23, val_main_v22, val_main_v21, val_main_v20, val_main_v19, val_main_v18, val_main_v17, val_main_v16, val_main_v15, val_main_v14, val_main_v13, val_main_v0]
  rfl

/-- The common rectangle's sides. -/
theorem v39_apply (x : FVec Ideal S1x4x20000 .f32) (i j : Fin 20000) (d : Fin 2) : val_main_v39 (F := Ideal) x (ix4 0 i j d)
    = max 0 (min (x (ix3 0 ⟨2 + d.val, by omega⟩ i)) (x (ix3 0 ⟨2 + d.val, by omega⟩ j)) - max (x (ix3 0 ⟨d.val, by omega⟩ i)) (x (ix3 0 ⟨d.val, by omega⟩ j))) := by
  pointwise [val_main_v39, val_main_call0_v1, val_main_call0_v0, val_main_cst, val_main_v38, val_main_v37, val_main_v36, val_main_v35, val_main_v34, val_main_v33, val_main_v32, val_main_v31, val_main_v30,
    val_main_v29, val_main_v28, val_main_v27, val_main_v26, val_main_v25, val_main_v24, val_main_v0]
  have e : (id (constant (F := Ideal) S_ .f32 0x00000000#32) ix0 : EReal) = 0 := Ideal.ofBits_zero_f32
  rw [e]

/-- The common area. -/
theorem v44_apply (x : FVec Ideal S1x4x20000 .f32) (i j : Fin 20000) : val_main_v44 (F := Ideal) x (ix3 0 i j) = (boxOf x i).inter (boxOf x j) := by
  pointwise [val_main_v44, val_main_v43, val_main_v42, val_main_v41, val_main_v40, v39_apply]
  rw [max_comm 0, max_comm 0]
  rfl

/-- The overlap ratio. -/
theorem v51_apply (x : FVec Ideal S1x4x20000 .f32) (i j : Fin 20000) : val_main_v51 (F := Ideal) x (ix3 0 i j) = (boxOf x i).iou (boxOf x j) := by
  pointwise [val_main_v51, val_main_v50, val_main_v49, val_main_v48, val_main_v47, val_main_v46, val_main_v45, v12_apply, v23_apply, v44_apply]
  rfl

end Cert.Peak

end
-- ==== Proof.RefStack.lean ====
/- The reference's layers read at an index. -/
module

public import proofs.«01_k».proof.Proof.Gen.ReferenceIdeal.Read
public import proofs.«01_k».proof.Proof.Spec
public import Idealize.ShloMosaic.Lib.Pointwise

@[expose] public section

set_option maxRecDepth 16384

noncomputable section

namespace Cert.Peak

open Idealize.ShloMosaic Idealize.ShloMosaic.TcCoe Idealize.ShloMosaic.Tactic Cert.ReferenceIdeal Cert.ReferenceIdeal.Gen Cert.ReferenceIdeal.Read
open Cert.ReferenceIdeal.Facts

/-- One layer of the reference's stack, over its weight and bias. -/
def layerR (w : FVec Ideal S1x256x256 .f32) (b : FVec Ideal S1x256 .f32) (h : FVec Ideal S1x256x20000 .f32) : FVec Ideal S1x256x20000 .f32 :=
  let z : FVec Ideal S1x256x20000 .f32 := addf (transpose S1x256x20000 [0, 2, 1] (Host.dotGeneral dot_S1x256x20000_S256x256_S1x20000x256_1_1_02_0_n_n none h
      (shapeCast S256x256 w shapeCasts_S1x256x256_S256x256)) transposes_S1x20000x256_S1x256x20000_0_2_1)
    (broadcastInDim S1x256x20000 ![0, 1, 2] bcast_S1x256x1_S1x256x20000_0_1_2 (broadcastInDim S1x256x1 ![1] bcast_S256_S1x256x1_1 (shapeCast S256 b shapeCasts_S1x256_S256)))
  select (cmpf .oge z (broadcastInDim S1x256x20000 ![] bcast_S_S1x256x20000 (constant S_ .f32 0x00000000#32))) z
    (mulf (broadcastInDim S1x256x20000 ![] bcast_S_S1x256x20000 (constant S_ .f32 0x3E4CCCCD#32)) z)

/-- A layer at an index. -/
theorem layerR_apply (w : FVec Ideal S1x256x256 .f32) (b : FVec Ideal S1x256 .f32) (h : FVec Ideal S1x256x20000 .f32) (o : Fin 256) (j : Fin 20000) :
    layerR w b h (ix3 0 o j) = lay (fun o k => w (ix3 0 o k)) (fun o => b (ix2 0 o)) (fun k => h (ix3 0 k j)) o := by
  pointwise [layerR]
  simp only [mul_comm (h _)]
  rfl

/-- Six layers of the reference. -/
def hiddenR6 (W : FVec Ideal S6x256x256 .f32) (b : FVec Ideal S6x256 .f32) (x : FVec Ideal S1x256x20000 .f32) : FVec Ideal S1x256x20000 .f32 :=
  layerR (extractStridedSlice S1x256x256 ![5, 0, 0] W slices_S6x256x256_S1x256x256_5_0_0) (extractStridedSlice S1x256 ![5, 0] b slices_S6x256_S1x256_5_0)
  (layerR (extractStridedSlice S1x256x256 ![4, 0, 0] W slices_S6x256x256_S1x256x256_4_0_0) (extractStridedSlice S1x256 ![4, 0] b slices_S6x256_S1x256_4_0)
  (layerR (extractStridedSlice S1x256x256 ![3, 0, 0] W slices_S6x256x256_S1x256x256_3_0_0) (extractStridedSlice S1x256 ![3, 0] b slices_S6x256_S1x256_3_0)
  (layerR (extractStridedSlice S1x256x256 ![2, 0, 0] W slices_S6x256x256_S1x256x256_2_0_0) (extractStridedSlice S1x256 ![2, 0] b slices_S6x256_S1x256_2_0)
  (layerR (extractStridedSlice S1x256x256 ![1, 0, 0] W slices_S6x256x256_S1x256x256_1_0_0) (extractStridedSlice S1x256 ![1, 0] b slices_S6x256_S1x256_1_0)
  (layerR (extractStridedSlice S1x256x256 ![0, 0, 0] W slices_S6x256x256_S1x256x256_0_0_0) (extractStridedSlice S1x256 ![0, 0] b slices_S6x256_S1x256_0_0) x)))))

/-- Six layers at an index. -/
theorem hiddenR6_apply (W : FVec Ideal S6x256x256 .f32) (b : FVec Ideal S6x256 .f32) (x : FVec Ideal S1x256x20000 .f32) (o : Fin 256) (j : Fin 20000) :
    hiddenR6 W b x (ix3 0 o j) = deep6 (fun i o k => W (ix3 i o k)) (fun i o => b (ix2 i o)) (fun k => x (ix3 0 k j)) o := by
  unfold hiddenR6 deep6
  simp only [layerR_apply]
  pointwise

/-- Four layers of the reference. -/
def hiddenR4 (W : FVec Ideal S4x256x256 .f32) (b : FVec Ideal S4x256 .f32) (x : FVec Ideal S1x256x20000 .f32) : FVec Ideal S1x256x20000 .f32 :=
  layerR (extractStridedSlice S1x256x256 ![3, 0, 0] W slices_S4x256x256_S1x256x256_3_0_0) (extractStridedSlice S1x256 ![3, 0] b slices_S4x256_S1x256_3_0)
  (layerR (extractStridedSlice S1x256x256 ![2, 0, 0] W slices_S4x256x256_S1x256x256_2_0_0) (extractStridedSlice S1x256 ![2, 0] b slices_S4x256_S1x256_2_0)
  (layerR (extractStridedSlice S1x256x256 ![1, 0, 0] W slices_S4x256x256_S1x256x256_1_0_0) (extractStridedSlice S1x256 ![1, 0] b slices_S4x256_S1x256_1_0)
  (layerR (extractStridedSlice S1x256x256 ![0, 0, 0] W slices_S4x256x256_S1x256x256_0_0_0) (extractStridedSlice S1x256 ![0, 0] b slices_S4x256_S1x256_0_0) x)))

/-- Four layers at an index. -/
theorem hiddenR4_apply (W : FVec Ideal S4x256x256 .f32) (b : FVec Ideal S4x256 .f32) (x : FVec Ideal S1x256x20000 .f32) (o : Fin 256) (j : Fin 20000) :
    hiddenR4 W b x (ix3 0 o j) = deep4 (fun i o k => W (ix3 i o k)) (fun i o => b (ix2 i o)) (fun k => x (ix3 0 k j)) o := by
  unfold hiddenR4 deep4
  simp only [layerR_apply]
  pointwise

/-- The stage before the first result's last product. -/
theorem v274_eq (x2 : FVec Ideal S1x256x20000 .f32) (x7 : FVec Ideal S4x256x256 .f32) (x8 : FVec Ideal S4x256 .f32) :
    val_main_v274 (F := Ideal) x2 x7 x8 = hiddenR4 x7 x8 x2 := rfl

/-- The first result at a column. -/
theorem pi_apply (x2 : FVec Ideal S1x256x20000 .f32) (x7 : FVec Ideal S4x256x256 .f32) (x8 : FVec Ideal S4x256 .f32) (x9 : FVec Ideal S1x256 .f32) (x10 : FVec Ideal S1 .f32) (j : Fin 20000) :
    val_main_v280 (F := Ideal) x2 x7 x8 x9 x10 (ix3 0 0 j)
      = Ideal.exp (fin (fun k => x9 (ix2 0 k)) (x10 (ix1 0)) (deep4 (fun i o k => x7 (ix3 i o k)) (fun i o => x8 (ix2 i o)) (fun k => x2 (ix3 0 k j)))) := by
  pointwise [val_main_v280, val_main_v279, val_main_v278, val_main_v277, val_main_v276, val_main_v275, v274_eq]
  simp only [hiddenR4_apply, mul_comm (deep4 _ _ _ _)]
  rfl

/-- The second result at a column. -/
theorem mu_apply (x0 : FVec Ideal S1x4x20000 .f32) (o : Fin 4) (j : Fin 20000) :
    val_main_v282 (F := Ideal) x0 (ix3 0 o j) = scale (x0 (ix3 0 o j)) := by
  pointwise [val_main_v282, val_main_v281, val_main_cst_35]
  rfl

/-- The stage before the weights' last product. -/
theorem v199_eq (x2 : FVec Ideal S1x256x20000 .f32) (x3 : FVec Ideal S6x256x256 .f32) (x4 : FVec Ideal S6x256 .f32) :
    val_main_v199 (F := Ideal) x2 x3 x4 = hiddenR6 x3 x4 x2 := rfl

/-- The stage before the third result's last product. -/
theorem v373_eq (x2 : FVec Ideal S1x256x20000 .f32) (x11 : FVec Ideal S6x256x256 .f32) (x12 : FVec Ideal S6x256 .f32) :
    val_main_v373 (F := Ideal) x2 x11 x12 = hiddenR6 x11 x12 x2 := rfl

/-- The numbers the weights are made of. -/
theorem v204_apply (x2 : FVec Ideal S1x256x20000 .f32) (x3 : FVec Ideal S6x256x256 .f32) (x4 : FVec Ideal S6x256 .f32) (x5 : FVec Ideal S3x256 .f32) (x6 : FVec Ideal S3 .f32) (o : Fin 3) (j : Fin 20000) :
    val_main_v204 (F := Ideal) x2 x3 x4 x5 x6 (ix3 0 o j)
      = fin (fun k => x5 (ix2 o k)) (x6 (ix1 o)) (deep6 (fun i o k => x3 (ix3 i o k)) (fun i o => x4 (ix2 i o)) (fun k => x2 (ix3 0 k j))) := by
  pointwise [val_main_v204, val_main_v203, val_main_v202, val_main_v201, val_main_v200, v199_eq]
  simp only [hiddenR6_apply, mul_comm (deep6 _ _ _ _)]
  rfl

/-- The reference's greatest of three, column by column. -/
def topR (z : FVec Ideal S1x3x20000 .f32) : FVec Ideal S1x20000 .f32 :=
  Host.reduce FloatOps.maximumf z (constant S_ .f32 0xFF800000#32) reducesTo_S1x3x20000_S1x20000_d1 h_S_

/-- The greatest at a column. -/
theorem topR_apply (z : FVec Ideal S1x3x20000 .f32) (j : Fin 20000) :
    topR z (ix2 0 j) = Finset.univ.fold max (Ideal.ofBits .f32 0xFF800000#32) (fun o : Fin 3 => z (ix3 0 o j)) := by
  pointwise [topR]

/-- The reference's exponentials above the greatest. -/
def expR (z : FVec Ideal S1x3x20000 .f32) : FVec Ideal S1x3x20000 .f32 :=
  Host.exp (subf z (broadcastInDim S1x3x20000 ![0, 1, 2] bcast_S1x1x20000_S1x3x20000_0_1_2 (broadcastInDim S1x1x20000 ![0, 2] bcast_S1x20000_S1x1x20000_0_2
    (maximumf (broadcastInDim S1x20000 ![] bcast_S_S1x20000 (constant S_ .f32 0xFF800000#32)) (topR z)))))

/-- An exponential at a column. -/
theorem expR_apply (z : FVec Ideal S1x3x20000 .f32) (o : Fin 3) (j : Fin 20000) :
    expR z (ix3 0 o j) = Ideal.exp (z (ix3 0 o j) - Finset.univ.fold max (Ideal.ofBits .f32 0xFF800000#32) (fun o : Fin 3 => z (ix3 0 o j))) := by
  pointwise [expR]
  rw [topR_apply, max_eq_right]
  exact Finset.le_fold_max _ |>.mpr (Or.inl le_rfl)

/-- The reference's weights. -/
theorem v215_eq (x2 : FVec Ideal S1x256x20000 .f32) (x3 : FVec Ideal S6x256x256 .f32) (x4 : FVec Ideal S6x256 .f32) (x5 : FVec Ideal S3x256 .f32) (x6 : FVec Ideal S3 .f32) :
    val_main_v211 (F := Ideal) x2 x3 x4 x5 x6 = expR (val_main_v204 (F := Ideal) x2 x3 x4 x5 x6) := rfl

/-- The weights at a column. -/
theorem v215_apply (x2 : FVec Ideal S1x256x20000 .f32) (x3 : FVec Ideal S6x256x256 .f32) (x4 : FVec Ideal S6x256 .f32) (x5 : FVec Ideal S3x256 .f32) (x6 : FVec Ideal S3 .f32) (o : Fin 3) (j : Fin 20000) :
    val_main_v215 (F := Ideal) x2 x3 x4 x5 x6 (ix3 0 o j)
      = soft (fun o => fin (fun k => x5 (ix2 o k)) (x6 (ix1 o)) (deep6 (fun i o k => x3 (ix3 i o k)) (fun i o => x4 (ix2 i o)) (fun k => x2 (ix3 0 k j)))) o := by
  pointwise [val_main_v215, val_main_v214, val_main_v213, val_main_v212, val_main_cst_25, v215_eq]
  simp only [expR_apply, v204_apply]
  rfl

/-- The third result's own product at a column. -/
theorem v378_apply (x2 : FVec Ideal S1x256x20000 .f32) (x11 : FVec Ideal S6x256x256 .f32) (x12 : FVec Ideal S6x256 .f32) (x13 : FVec Ideal S4x256 .f32) (x14 : FVec Ideal S4 .f32) (o : Fin 4) (j : Fin 20000) :
    val_main_v378 (F := Ideal) x2 x11 x12 x13 x14 (ix3 0 o j)
      = fin (fun k => x13 (ix2 o k)) (x14 (ix1 o)) (deep6 (fun i o k => x11 (ix3 i o k)) (fun i o => x12 (ix2 i o)) (fun k => x2 (ix3 0 k j))) := by
  pointwise [val_main_v378, val_main_v377, val_main_v376, val_main_v375, val_main_v374, v373_eq]
  simp only [hiddenR6_apply, mul_comm (deep6 _ _ _ _)]
  rfl

/-- The smooth ramp at a column. -/
theorem v379_apply (x2 : FVec Ideal S1x256x20000 .f32) (x11 : FVec Ideal S6x256x256 .f32) (x12 : FVec Ideal S6x256 .f32) (x13 : FVec Ideal S4x256 .f32) (x14 : FVec Ideal S4 .f32) (o : Fin 4) (j : Fin 20000) :
    val_main_v379 (F := Ideal) x2 x11 x12 x13 x14 (ix3 0 o j) = smooth (val_main_v378 (F := Ideal) x2 x11 x12 x13 x14 (ix3 0 o j)) := by
  pointwise [val_main_v379, val_main_call21_v11, val_main_call21_v10, val_main_call21_v9, val_main_call21_v8, val_main_call21_v7, val_main_call21_v6, val_main_call21_v5, val_main_call21_v4, val_main_call21_v3,
    val_main_call21_v2, val_main_call21_v1, val_main_call21_v0, val_main_call21_cst]
  generalize val_main_v378 (F := Ideal) x2 x11 x12 x13 x14 (ix3 0 o j) = z
  rw [if_neg (not_not.mpr rfl)]
  unfold smooth
  rw [zero_sub]
  rfl

/-- The least spreads at a column. -/
theorem v289_apply (x0 : FVec Ideal S1x4x20000 .f32) (o : Fin 4) (j : Fin 20000) :
    val_main_v289 (F := Ideal) x0 (ix3 0 o j) = ![spread (x0 (ix3 0 0 j)) (x0 (ix3 0 2 j)), spread (x0 (ix3 0 1 j)) (x0 (ix3 0 3 j)), spread (x0 (ix3 0 0 j)) (x0 (ix3 0 2 j)), spread (x0 (ix3 0 1 j)) (x0 (ix3 0 3 j))] o := by
  pointwise [val_main_v289, val_main_v288, val_main_cst_37, val_main_v287, val_main_call14_v1, val_main_call14_v0, val_main_cst_36, val_main_v286, val_main_v285, val_main_v284, val_main_v283, mu_apply]
  match o with
  | 0 => rw [max_comm]; rfl
  | 1 => rw [max_comm]; rfl
  | 2 => rw [max_comm]; rfl
  | 3 => rw [max_comm]; rfl

/-- The third result at a column. -/
theorem gamma_apply (x0 : FVec Ideal S1x4x20000 .f32) (x2 : FVec Ideal S1x256x20000 .f32) (x11 : FVec Ideal S6x256x256 .f32) (x12 : FVec Ideal S6x256 .f32) (x13 : FVec Ideal S4x256 .f32) (x14 : FVec Ideal S4 .f32) (o : Fin 4) (j : Fin 20000) :
    val_main_v380 (F := Ideal) x0 x2 x11 x12 x13 x14 (ix3 0 o j)
      = smooth (fin (fun k => x13 (ix2 o k)) (x14 (ix1 o)) (deep6 (fun i o k => x11 (ix3 i o k)) (fun i o => x12 (ix2 i o)) (fun k => x2 (ix3 0 k j))))
      + ![spread (x0 (ix3 0 0 j)) (x0 (ix3 0 2 j)), spread (x0 (ix3 0 1 j)) (x0 (ix3 0 3 j)), spread (x0 (ix3 0 0 j)) (x0 (ix3 0 2 j)), spread (x0 (ix3 0 1 j)) (x0 (ix3 0 3 j))] o := by
  rw [val_main_v380_apply, v379_apply, v378_apply, v289_apply]
  rfl

end Cert.Peak

end
-- ==== Proof.RefMask.lean ====
/- The reference's masks: a column is kept where its own place is the first row that attains the column's greatest value. -/
module

public import proofs.«01_k».proof.Proof.RefIou
public import proofs.«01_k».proof.Proof.RefStack

@[expose] public section

set_option maxRecDepth 16384

noncomputable section

namespace Cert.Peak

open Idealize.ShloMosaic Idealize.ShloMosaic.TcCoe Idealize.ShloMosaic.Tactic Cert.ReferenceIdeal Cert.ReferenceIdeal.Gen Cert.ReferenceIdeal.Read
open Cert.ReferenceIdeal.Facts

/-- A fold by the signed minimum is at most `c` where the start or some member is. -/
theorem fold_minsi_le {ι : Type} [DecidableEq ι] (s : Finset ι) (init : BitVec 32) (f : ι → BitVec 32) (c : ℤ) :
    (s.fold IntOp.minsi init f).toInt ≤ c ↔ init.toInt ≤ c ∨ ∃ i ∈ s, (f i).toInt ≤ c := by
  induction s using Finset.induction_on with
  | empty => simp
  | insert a s ha ih =>
    rw [Finset.fold_insert ha]
    have h : ∀ x y : BitVec 32, (IntOp.minsi x y).toInt ≤ c ↔ x.toInt ≤ c ∨ y.toInt ≤ c := by
      intro x y
      unfold IntOp.minsi
      by_cases h : x.slt y = true
      · have := BitVec.slt_iff_toInt_lt.mp h
        rw [if_pos h]
        omega
      · have := mt BitVec.slt_iff_toInt_lt.mpr h
        rw [if_neg h]
        omega
    rw [h, ih]
    simp only [Finset.mem_insert, exists_eq_or_imp]
    tauto

/-- A row's number as a word. -/
theorem toInt_row {k : Nat} (h : k ≤ 20000) : (BitVec.ofNat 32 k).toInt = k := by
  have e : (BitVec.ofNat 32 k).toNat = k := by
    rw [BitVec.toNat_ofNat]
    omega
  rw [BitVec.toInt_eq_toNat_of_lt (by omega), e]

/-- The least row number with a property is `p`, exactly where `p` has it and no earlier row does. -/
theorem first_iff (P : Fin 20000 → Prop) [DecidablePred P] (p : Fin 20000) :
    (Finset.univ : Finset (Fin 20000)).fold IntOp.minsi 2147483647#32 (fun i => if P i then BitVec.ofNat 32 i.val else 20000#32) = BitVec.ofNat 32 p.val
      ↔ P p ∧ ∀ i, i < p → ¬ P i := by
  have key : ∀ c : ℤ, c < 20000 → (((Finset.univ : Finset (Fin 20000)).fold IntOp.minsi 2147483647#32 (fun i => if P i then BitVec.ofNat 32 i.val else 20000#32)).toInt ≤ c
      ↔ ∃ i, P i ∧ (i.val : ℤ) ≤ c) := by
    intro c hc
    rw [fold_minsi_le]
    have h0 : ¬ (2147483647#32 : BitVec 32).toInt ≤ c := by
      have : (2147483647#32 : BitVec 32).toInt = 2147483647 := by decide
      omega
    have h1 : (20000#32 : BitVec 32).toInt = 20000 := by decide
    constructor
    · rintro (h | ⟨i, _, h⟩)
      · exact absurd h h0
      · by_cases hp : P i
        · rw [if_pos hp, toInt_row i.isLt.le] at h
          exact ⟨i, hp, h⟩
        · rw [if_neg hp, h1] at h
          omega
    · rintro ⟨i, hp, h⟩
      exact Or.inr ⟨i, Finset.mem_univ _, by rw [if_pos hp, toInt_row i.isLt.le]; exact h⟩
  rw [← BitVec.toInt_inj, toInt_row p.isLt.le]
  have hp := p.isLt
  have k1 := key p.val (by omega)
  have k2 := key (p.val - 1) (by omega)
  constructor
  · intro h
    have hlt : ∀ i, i < p → ¬ P i := fun i hi hP => by
      have : (i.val : ℤ) < p.val := by exact_mod_cast hi
      have := k2.mpr ⟨i, hP, by omega⟩
      omega
    obtain ⟨i, hP, hi⟩ := k1.mp h.le
    have : ¬ i < p := fun hlt' => hlt i hlt' hP
    have : i = p := by
      apply Fin.ext
      have h1 : ¬ i.val < p.val := this
      omega
    exact ⟨this ▸ hP, hlt⟩
  · rintro ⟨hP, hlt⟩
    have h1 := k1.mpr ⟨p, hP, le_rfl⟩
    have h2 : ¬ _ := fun h => by
      obtain ⟨i, hi, h⟩ := k2.mp h
      exact hlt i (by show i.val < p.val; omega) hi
    omega

/-- A row is the first that attains the greatest value. -/
def First (a : Fin 20000 → EReal) (p : Fin 20000) : Prop := (∀ i, a i ≤ a p) ∧ ∀ i, i < p → a i < a p

/-- The same, over the greatest value as a fold. -/
theorem first_top (a : Fin 20000 → EReal) (p : Fin 20000) :
    (a p = Finset.univ.fold max ⊥ a ∧ ∀ i, i < p → ¬ a i = Finset.univ.fold max ⊥ a) ↔ First a p := by
  have hle : ∀ i, a i ≤ Finset.univ.fold max ⊥ a := fun i => (Finset.le_fold_max _).mpr (Or.inr ⟨i, Finset.mem_univ _, le_rfl⟩)
  constructor
  · rintro ⟨h, hn⟩
    exact ⟨fun i => h ▸ hle i, fun i hi => lt_of_le_of_ne (h ▸ hle i) (h ▸ hn i hi)⟩
  · rintro ⟨h, hn⟩
    have e : a p = Finset.univ.fold max ⊥ a := le_antisymm (hle p) ((Finset.fold_max_le _).mpr ⟨bot_le, fun i _ => h i⟩)
    exact ⟨e, fun i hi => e ▸ (hn i hi).ne⟩

/-- The values a threshold leaves, over the overlaps and the scores. -/
def adjR (t : BitVec 32) (I : FVec Ideal S1x20000x20000 .f32) (s : FVec Ideal S1x20000x1 .f32) : FVec Ideal S1x20000x20000 .f32 :=
  mulf (uitofp .f32 (cmpf .oge I (broadcastInDim S1x20000x20000 ![] bcast_S_S1x20000x20000 (constant S_ .f32 t))))
    (broadcastInDim S1x20000x20000 ![0, 1, 2] bcast_S1x20000x1_S1x20000x20000_0_1_2 s)

/-- The first row of each column that attains the greatest value. -/
def argR (a : FVec Ideal S1x20000x20000 .f32) : IVec S1x20000 32 :=
  Host.reduce IntOp.minsi (select (cmpf .oeq a (broadcastInDim S1x20000x20000 ![0, 1, 2] bcast_S1x1x20000_S1x20000x20000_0_1_2 (broadcastInDim S1x1x20000 ![0, 2] bcast_S1x20000_S1x1x20000_0_2
      (Host.reduce FloatOps.maximumf a (constant S_ .f32 0xFF800000#32) reducesTo_S1x20000x20000_S1x20000_d1 h_S_))))
    (broadcastInDim S1x20000x20000 ![0, 1, 2] bcast_S1x20000x1_S1x20000x20000_0_1_2 (broadcastInDim S1x20000x1 ![1] bcast_S20000_S1x20000x1_1 (iotaInDim S20000 32 0)))
    (broadcastInDim S1x20000x20000 ![] bcast_S_S1x20000x20000 (id (constantI S_ 32 20000#32)))) (constantI S_ 32 2147483647#32) reducesTo_S1x20000x20000_S1x20000_d1 h_S_

/-- A value left at a row and a column. -/
theorem adjR_apply (t : BitVec 32) (I : FVec Ideal S1x20000x20000 .f32) (s : FVec Ideal S1x20000x1 .f32) (i j : Fin 20000) :
    adjR t I s (ix3 0 i j) = (if thr t ≤ I (ix3 0 i j) then 1 else 0) * s (ix3 0 i 0) := by
  pointwise [adjR]
  have e : (FloatOps.uitofp (F := Ideal) FTy.f32 (BitVec.ofBool (decide (Ideal.ofBits FTy.f32 t ≤ I (ix3 0 i j))))) = if thr t ≤ I (ix3 0 i j) then 1 else 0 := by
    by_cases h : thr t ≤ I (ix3 0 i j)
    · have h' : Ideal.ofBits FTy.f32 t ≤ I (ix3 0 i j) := h
      rw [if_pos h, decide_eq_true h']
      show (((1#1 : BitVec 1).toNat : ℝ) : EReal) = 1
      simp
    · have h' : ¬ Ideal.ofBits FTy.f32 t ≤ I (ix3 0 i j) := h
      rw [if_neg h, decide_eq_false h']
      show (((0#1 : BitVec 1).toNat : ℝ) : EReal) = 0
      simp
  rw [e]

/-- A column's first row is `p` where `p` is the first that attains the column's greatest value. -/
theorem argR_apply (a : FVec Ideal S1x20000x20000 .f32) (j p : Fin 20000) :
    argR a (ix2 0 j) = BitVec.ofNat 32 p.val ↔ First (fun i => a (ix3 0 i j)) p := by
  have e0 : Ideal.ofBits FTy.f32 4286578688#32 = (⊥ : EReal) := by
    simp [Ideal.ofBits, Ideal.ieee]
  pointwise [argR]
  rw [e0]
  show Finset.fold IntOp.minsi (2147483647#32) (fun x => if a (ix3 0 x j) = Finset.fold max ⊥ (fun x => a (ix3 0 x j)) Finset.univ then
      BitVec.ofNat 32 x.val else 20000#32) Finset.univ = BitVec.ofNat 32 p.val ↔ _
  rw [← first_top (fun i => a (ix3 0 i j)) p]
  exact first_iff _ p

/-- A column's place among its block's rows. -/
theorem place_apply (j : Fin 20000) : val_main_v69 (F := Ideal) (ix2 0 j) = BitVec.ofNat 32 (j.val % 1000) := by
  pointwise [val_main_v69, val_main_v68, val_main_v67, val_main_v66, val_main_v65]

/-- The mask of one threshold. -/
def maskR (t : BitVec 32) (I : FVec Ideal S1x20000x20000 .f32) (s : FVec Ideal S1x20000x1 .f32) : FVec Ideal S1x1x20000 .f32 :=
  broadcastInDim S1x1x20000 ![0, 2] bcast_S1x20000_S1x1x20000_0_2 (uitofp .f32 (cmpi .eq (argR (adjR t I s)) (val_main_v69 (F := Ideal))))

/-- The mask is one where the column's place is the first row that attains the greatest value. -/
theorem maskR_apply (t : BitVec 32) (I : FVec Ideal S1x20000x20000 .f32) (s : FVec Ideal S1x20000x1 .f32) (j p : Fin 20000) (hp : p.val = j.val % 1000)
    [Decidable (First (fun i => (if thr t ≤ I (ix3 0 i j) then 1 else 0) * s (ix3 0 i 0)) p)] :
    maskR t I s (ix3 0 0 j) = if First (fun i => (if thr t ≤ I (ix3 0 i j) then 1 else 0) * s (ix3 0 i 0)) p then 1 else 0 := by
  have hA := argR_apply (adjR t I s) j p
  have hP := place_apply j
  rw [← hp] at hP
  have e : (fun i => adjR t I s (ix3 0 i j)) = fun i => (if thr t ≤ I (ix3 0 i j) then 1 else 0) * s (ix3 0 i 0) := funext fun i => adjR_apply t I s i j
  rw [e] at hA
  pointwise [maskR]
  rw [hP]
  generalize argR (adjR t I s) (ix2 0 j) = A at hA
  by_cases h : A = BitVec.ofNat 32 p.val
  · rw [if_pos (hA.mp h), h]
    show (((BitVec.ofBool (_ == _) : BitVec 1).toNat : ℝ) : EReal) = 1
    simp
  · rw [if_neg (mt hA.mpr h)]
    show (((BitVec.ofBool (_ == _) : BitVec 1).toNat : ℝ) : EReal) = 0
    rw [beq_false_of_ne h]
    simp

/-- A column of scores is the given row. -/
theorem v1_apply (x1 : FVec Ideal S1x1x20000 .f32) (i : Fin 20000) : val_main_v1 (F := Ideal) x1 (ix3 0 i 0) = x1 (ix3 0 0 i) := by
  pointwise [val_main_v1]

/-- Three masks over three weights, summed. -/
def sumR (M1 M2 M3 : FVec Ideal S1x1x20000 .f32) (W : FVec Ideal S1x3x20000 .f32) : FVec Ideal S1x1x20000 .f32 :=
  broadcastInDim S1x1x20000 ![0, 2] bcast_S1x20000_S1x1x20000_0_2 (Host.reduceAdd (F := Ideal)
    (mulf (concatenate S1x3x20000 1 [⟨S1x1x20000, M1⟩, ⟨S1x1x20000, M2⟩, ⟨S1x1x20000, M3⟩] concatenates_S1x1x20000_S1x1x20000_S1x1x20000_S1x3x20000_d1) W)
    (val_main_cst_26 (F := Ideal)) reducesTo_S1x3x20000_S1x20000_d1 h_S_)

/-- Three masks over three weights, summed, at a column. -/
theorem sumR_apply (M1 M2 M3 : FVec Ideal S1x1x20000 .f32) (W : FVec Ideal S1x3x20000 .f32) (j : Fin 20000) :
    sumR M1 M2 M3 W (ix3 0 0 j) = M1 (ix3 0 0 j) * W (ix3 0 0 j) + M2 (ix3 0 0 j) * W (ix3 0 1 j) + M3 (ix3 0 0 j) * W (ix3 0 2 j) := by
  pointwise [sumR, val_main_cst_26]
  rw [Fin.sum_univ_three]
  rfl

/-- The reference's fourth result, as three masks over three weights. -/
theorem v218_eq (x0 : FVec Ideal S1x4x20000 .f32) (x1 : FVec Ideal S1x1x20000 .f32) (x2 : FVec Ideal S1x256x20000 .f32) (x3 : FVec Ideal S6x256x256 .f32) (x4 : FVec Ideal S6x256 .f32)
    (x5 : FVec Ideal S3x256 .f32) (x6 : FVec Ideal S3 .f32) :
    val_main_v218 (F := Ideal) x0 x1 x2 x3 x4 x5 x6 = sumR (maskR 0x3ECCCCCD#32 (val_main_v51 (F := Ideal) x0) (val_main_v1 (F := Ideal) x1))
      (maskR 0x3F19999A#32 (val_main_v51 (F := Ideal) x0) (val_main_v1 (F := Ideal) x1)) (maskR 0x3F4CCCCD#32 (val_main_v51 (F := Ideal) x0) (val_main_v1 (F := Ideal) x1))
      (val_main_v215 (F := Ideal) x2 x3 x4 x5 x6) := rfl

end Cert.Peak

end
-- ==== Proof.Mask.lean ====
/- The order of the keys is the order of the values that a threshold leaves: the greater value first, and the smaller row among equal ones. -/
module

public import proofs.«01_k».proof.Proof.Tables
public import proofs.«01_k».proof.Proof.RefMask

@[expose] public section

set_option maxRecDepth 16384

noncomputable section

namespace Cert.Peak

open Idealize.ShloMosaic Idealize.ShloMosaic.TcCoe Idealize.ShloMosaic.Tactic

/-- A row's key where its overlap reaches the threshold. -/
def upK (s : Fin 20000 → EReal) (i : Fin 20000) : EReal := if 0 < s i then (((rank s i).val : ℝ) : EReal) else ((1048576 + (i.val : ℝ) : ℝ) : EReal)

/-- A row's key where it does not. -/
def bigK (i : Fin 20000) : EReal := ((1048576 + (i.val : ℝ) : ℝ) : EReal)

/-- The filler of the key tables. -/
def fillK : EReal := ((16777216 : ℝ) : EReal)

/-- The value a threshold leaves of a row's score. -/
def leftOf (t : BitVec 32) (B : Fin 20000 → Box) (s : Fin 20000 → EReal) (j i : Fin 20000) : EReal := (if thr t ≤ (B i).iou (B j) then 1 else 0) * s i

/-- A row's key against a column. -/
def keyAt (t : BitVec 32) (B : Fin 20000 → Box) (s : Fin 20000 → EReal) (j i : Fin 20000) : EReal := keyOf t (B i) (B j) (upK s i) (bigK i)

/-- A key is smaller where the row stands before by the value left. -/
theorem keyAt_lt (t : BitVec 32) (B : Fin 20000 → Box) (s : Fin 20000 → EReal) (hs : ∀ i, 0 ≤ s i) (j i p : Fin 20000) :
    keyAt t B s j i < keyAt t B s j p ↔ Before (leftOf t B s j) i p := by
  have hk : ∀ i, keyAt t B s j i = if thr t ≤ (B i).iou (B j) ∧ 0 < s i then (((rank s i).val : ℝ) : EReal) else ((1048576 + (i.val : ℝ) : ℝ) : EReal) := fun i => by
    unfold keyAt keyOf upK bigK
    by_cases h1 : thr t ≤ (B i).iou (B j) <;> by_cases h2 : 0 < s i <;> simp [h1, h2]
  have hl : ∀ i, leftOf t B s j i = if thr t ≤ (B i).iou (B j) ∧ 0 < s i then s i else 0 := fun i => by
    unfold leftOf
    by_cases h1 : thr t ≤ (B i).iou (B j)
    · by_cases h2 : 0 < s i
      · simp [h1, h2]
      · have : s i = 0 := le_antisymm (not_lt.mp h2) (hs i)
        simp [h1, this]
    · simp [h1]
  have hb : ∀ i p : Fin 20000, (((rank s i).val : ℝ) : EReal) < ((1048576 + (p.val : ℝ) : ℝ) : EReal) := fun i p => by
    have h : (rank s i).val < 1048576 + p.val := by have := (rank s i).isLt; omega
    rw [EReal.coe_lt_coe_iff]
    exact_mod_cast h
  rw [hk, hk]
  unfold Before
  rw [hl, hl]
  by_cases hi : thr t ≤ (B i).iou (B j) ∧ 0 < s i <;> by_cases hp : thr t ≤ (B p).iou (B j) ∧ 0 < s p
  · rw [if_pos hi, if_pos hp, if_pos hi, if_pos hp, EReal.coe_lt_coe_iff, Nat.cast_lt]
    exact rank_lt_iff s i p
  · rw [if_pos hi, if_neg hp, if_pos hi, if_neg hp]
    exact ⟨fun _ => Or.inl hi.2, fun _ => hb i p⟩
  · rw [if_neg hi, if_pos hp, if_neg hi, if_pos hp]
    refine ⟨fun h => absurd h (lt_asymm (hb p i)), fun h => ?_⟩
    rcases h with h | ⟨h, -⟩
    · exact absurd h (lt_asymm hp.2)
    · exact absurd h hp.2.ne
  · rw [if_neg hi, if_neg hp, if_neg hi, if_neg hp, EReal.coe_lt_coe_iff]
    constructor
    · intro h
      refine Or.inr ⟨rfl, ?_⟩
      have : (i.val : ℝ) < p.val := by linarith
      exact_mod_cast this
    · rintro (h | ⟨-, h⟩)
      · exact absurd h (lt_irrefl _)
      · have : (i.val : ℝ) < p.val := by exact_mod_cast h
        linarith

/-- A key is no more than the filler. -/
theorem keyAt_le (t : BitVec 32) (B : Fin 20000 → Box) (s : Fin 20000 → EReal) (j i : Fin 20000) : keyAt t B s j i ≤ fillK := by
  have h1 : (((rank s i).val : ℝ) : EReal) ≤ fillK := by
    have h : (rank s i).val ≤ 16777216 := by have := (rank s i).isLt; omega
    unfold fillK
    rw [EReal.coe_le_coe_iff]
    exact_mod_cast h
  have h2 : bigK i ≤ fillK := by
    have h : 1048576 + i.val ≤ 16777216 := by omega
    unfold bigK fillK
    rw [EReal.coe_le_coe_iff]
    exact_mod_cast h
  unfold keyAt keyOf upK
  split
  · split
    · exact h1
    · exact h2
  · exact h2

/-- No row stands before the one that is first to attain the greatest value. -/
theorem first_iff_before (a : Fin 20000 → EReal) (p : Fin 20000) : First a p ↔ ¬ ∃ i, Before a i p := by
  constructor
  · rintro ⟨h1, h2⟩ ⟨i, h | ⟨h, hi⟩⟩
    · exact absurd h (not_lt.mpr (h1 i))
    · exact absurd h (h2 i hi).ne
  · intro h
    refine ⟨fun i => not_lt.mp fun hi => h ⟨i, Or.inl hi⟩, fun i hi => lt_of_le_of_ne (not_lt.mp fun hi => h ⟨i, Or.inl hi⟩) fun e => h ⟨i, Or.inr ⟨e, hi⟩⟩⟩

/-- Some tile's least key is below a row's key exactly where the row is not the first that attains the greatest value left. -/
theorem tiles_iff (t : BitVec 32) (B : Fin 20000 → Box) (s : Fin 20000 → EReal) (hs : ∀ i, 0 ≤ s i) (j p : Fin 20000) (S : Fin 8 → EReal) (T : Fin 8 → Fin 2560 → EReal)
    (hS : ∀ a x, S a < x ↔ fillK < x ∨ ∃ l, T a l < x) (hT : ∀ a l, T a l = if h : num8 a l < 20000 then keyAt t B s j ⟨num8 a l, h⟩ else fillK) :
    (∃ a, S a < keyAt t B s j p) ↔ ¬ First (leftOf t B s j) p := by
  rw [first_iff_before, not_not]
  simp only [← keyAt_lt t B s hs]
  have hle := not_lt.mpr (keyAt_le t B s j p)
  constructor
  · rintro ⟨a, h⟩
    rcases (hS a _).mp h with h | ⟨l, h⟩
    · exact absurd h hle
    · rw [hT] at h
      by_cases hn : num8 a l < 20000
      · rw [dif_pos hn] at h
        exact ⟨_, h⟩
      · rw [dif_neg hn] at h
        exact absurd h hle
  · rintro ⟨i, h⟩
    have hi := i.isLt
    refine ⟨⟨i.val % 8, by omega⟩, (hS _ _).mpr (Or.inr ⟨⟨i.val / 8, by omega⟩, ?_⟩)⟩
    have e : i.val / 8 * 8 + i.val % 8 = i.val := by omega
    rw [hT, dif_pos (by show i.val / 8 * 8 + i.val % 8 < 20000; omega)]
    have e' : (⟨num8 ⟨i.val % 8, by omega⟩ ⟨i.val / 8, by omega⟩, by show i.val / 8 * 8 + i.val % 8 < 20000; omega⟩ : Fin 20000) = i := Fin.ext e
    rw [e']
    exact h

end Cert.Peak

end
-- ==== Proof.Final.lean ====
/- The body's outputs at a block's column, as the reference's results at that column. -/
module

public import proofs.«01_k».proof.Proof.Blocks
public import proofs.«01_k».proof.Proof.ReadK
public import proofs.«01_k».proof.Proof.Mask

@[expose] public section

set_option maxRecDepth 16384

noncomputable section

namespace Cert.Peak

open Idealize.ShloMosaic Idealize.ShloMosaic.TcCoe Idealize.ShloMosaic.Tactic Cert.KernelIdeal Cert.KernelIdeal.Gen
open Cert.KernelIdeal.Facts Idealize.ShloMosaic.Pipeline

variable (m : (ℓ : Loc nD τ sig) → Buf (Elt Ideal) ℓ) (c : Dev nD)

/-- The biases as columns. -/
theorem bias_apply (x4 : FVec Ideal S6x256 .f32) (x6 : FVec Ideal S3 .f32) (x8 : FVec Ideal S4x256 .f32) (x10 : FVec Ideal S1 .f32) (x14 : FVec Ideal S4 .f32) :
    (∀ i o, broadcastInDim S6x256x1 ![0, 1] bcast_S6x256_S6x256x1_0_1 x4 (ix3 i o 0) = x4 (ix2 i o))
      ∧ (∀ o, broadcastInDim S3x1 ![0] bcast_S3_S3x1_0 x6 (ix2 o 0) = x6 (ix1 o))
      ∧ (∀ i o, broadcastInDim S4x256x1 ![0, 1] bcast_S4x256_S4x256x1_0_1 x8 (ix3 i o 0) = x8 (ix2 i o))
      ∧ (broadcastInDim S1x1 ![0] bcast_S1_S1x1_0 x10 (ix2 0 0) = x10 (ix1 0))
      ∧ (∀ o, broadcastInDim S4x1 ![0] bcast_S4_S4x1_0 x14 (ix2 o 0) = x14 (ix1 o)) := by
  refine ⟨fun i o => ?_, fun o => ?_, fun i o => ?_, ?_, fun o => ?_⟩ <;> pointwise

/-- The features of a block. -/
theorem feat_eq (t : Fin cfg0.N) (q : Fin 1000) : (fun k => iblk m c 13 t (ix3 0 k q)) = fun k => arg m c main_arg2 (ix3 0 k (at1000 t q)) := by
  funext k
  rw [iblk_feat, V_feat]
  exact featB_apply _ _ _ _

/-- The boxes of a block. -/
theorem box_eq (t : Fin cfg0.N) (q : Fin 1000) :
    (⟨iblk m c 0 t (ix3 0 0 q), iblk m c 1 t (ix3 0 0 q), iblk m c 2 t (ix3 0 0 q), iblk m c 3 t (ix3 0 0 q), iblk m c 4 t (ix3 0 0 q)⟩ : Box)
      = boxOf (arg m c main_arg0) (at1000 t q) := by
  obtain ⟨r0, r1, r2, r3, r4⟩ := iblk_row m c t q
  obtain ⟨h0, h1, h2, h3, h4⟩ := rows_apply (arg m c main_arg0) (at1000 t q)
  rw [r0, r1, r2, r3, r4, V_blk_x1, V_blk_y1, V_blk_x2, V_blk_y2, V_blk_ar]
  unfold boxOf
  rw [Box.mk.injEq]
  exact ⟨(blocks_apply _ _ _).trans h0, (blocks_apply _ _ _).trans h1, (blocks_apply _ _ _).trans h2, (blocks_apply _ _ _).trans h3, (blocks_apply _ _ _).trans h4⟩

/-- The first output. -/
theorem body_pi (t : Fin cfg0.N) (q : Fin 1000) : (outsAt0 m c t).1 (ix3 0 0 q)
    = Cert.ReferenceIdeal.Read.val_main_v280 (F := Ideal) (arg m c main_arg2) (arg m c main_arg7) (arg m c main_arg8) (arg m c main_arg9) (arg m c main_arg10) (ix3 0 0 (at1000 t q)) := by
  have e : (outsAt0 m c t).1 = piOut (iblk m c 13 t) (iblk m c 18 t) (iblk m c 19 t) (iblk m c 20 t) (iblk m c 21 t) := by
    dsimp only [outsAt0]
    rw [out26_eq]
  obtain ⟨b5, b6, b7, b8, b9, b10, b11, b12, b14, b15, b16, b17, b18, b19, b20, b21, -⟩ := iblk_whole m c t
  obtain ⟨-, -, h8, h10, -⟩ := bias_apply (arg m c main_arg4) (arg m c main_arg6) (arg m c main_arg8) (arg m c main_arg10) (arg m c main_arg14)
  rw [e, piOut_apply, pi_apply, feat_eq, b18, b19, b20, b21, V_weight7, V_weight9, V_bias8, V_bias10]
  simp only [h8, h10]

/-- The second output. -/
theorem body_mu (t : Fin cfg0.N) (o : Fin 4) (q : Fin 1000) : (outsAt0 m c t).2.1 (ix3 0 o q)
    = Cert.ReferenceIdeal.Read.val_main_v282 (F := Ideal) (arg m c main_arg0) (ix3 0 o (at1000 t q)) := by
  have e : (outsAt0 m c t).2.1 = muOut (iblk m c 0 t) (iblk m c 1 t) (iblk m c 2 t) (iblk m c 3 t) := by
    dsimp only [outsAt0]
    rw [out27_eq]
  have hb := box_eq m c t q
  unfold boxOf at hb
  rw [Box.mk.injEq] at hb
  obtain ⟨h0, h1, h2, h3, -⟩ := hb
  rw [e, muOut_apply, mu_apply, h0, h1, h2, h3]
  clear e h0 h1 h2 h3
  match o with
  | 0 => rfl
  | 1 => rfl
  | 2 => rfl
  | 3 => rfl

/-- The third output. -/
theorem body_gamma (t : Fin cfg0.N) (o : Fin 4) (q : Fin 1000) : (outsAt0 m c t).2.2.1 (ix3 0 o q)
    = Cert.ReferenceIdeal.Read.val_main_v380 (F := Ideal) (arg m c main_arg0) (arg m c main_arg2) (arg m c main_arg11) (arg m c main_arg12) (arg m c main_arg13) (arg m c main_arg14) (ix3 0 o (at1000 t q)) := by
  have e : (outsAt0 m c t).2.2.1 = gammaOut (iblk m c 0 t) (iblk m c 1 t) (iblk m c 2 t) (iblk m c 3 t) (iblk m c 13 t) (iblk m c 22 t) (iblk m c 23 t) (iblk m c 24 t) (iblk m c 25 t) := by
    dsimp only [outsAt0]
    rw [out28_eq]
  have hb := box_eq m c t q
  unfold boxOf at hb
  rw [Box.mk.injEq] at hb
  obtain ⟨h0, h1, h2, h3, -⟩ := hb
  obtain ⟨b5, b6, b7, b8, b9, b10, b11, b12, b14, b15, b16, b17, b18, b19, b20, b21, b22, b23, b24, b25⟩ := iblk_whole m c t
  obtain ⟨g4, -, -, -, -⟩ := bias_apply (arg m c main_arg12) (arg m c main_arg6) (arg m c main_arg8) (arg m c main_arg10) (arg m c main_arg14)
  obtain ⟨-, -, -, -, g14⟩ := bias_apply (arg m c main_arg4) (arg m c main_arg6) (arg m c main_arg8) (arg m c main_arg10) (arg m c main_arg14)
  rw [e, gammaOut_apply, gamma_apply, h0, h1, h2, h3, feat_eq, b22, b23, b24, b25, V_weight11, V_weight13, V_bias12, V_bias14]
  simp only [g4, g14]

/-- The heads at a column: the box, the key and the large key of the row of the column's own place. -/
theorem heads_apply (b : FVec Ideal S1x4x20000 .f32) (s : FVec Ideal S1x1x20000 .f32) (q : Fin 1000) :
    (⟨heads b s (ix3 0 0 q), heads b s (ix3 1 0 q), heads b s (ix3 2 0 q), heads b s (ix3 3 0 q), heads b s (ix3 4 0 q)⟩ : Box) = boxOf b (at1000 0 q)
      ∧ heads b s (ix3 5 0 q) = upK (fun i => s (ix3 0 0 i)) (at1000 0 q) ∧ heads b s (ix3 6 0 q) = bigK (at1000 0 q) := by
  obtain ⟨h0, h1, h2, h3, h4⟩ := rows_apply b (at1000 0 q)
  obtain ⟨g0, g1, g2, g3, g4, g5, g6⟩ := stack7_apply (first (rowX1 b)) (first (rowY1 b)) (first (rowX2 b)) (first (rowY2 b)) (first (rowAr b)) (first (rowKey s)) (first rowBig) q
  unfold heads
  refine ⟨?_, ?_, ?_⟩
  · unfold boxOf
    rw [Box.mk.injEq]
    exact ⟨g0.trans ((first_apply _ _).trans h0), g1.trans ((first_apply _ _).trans h1), g2.trans ((first_apply _ _).trans h2), g3.trans ((first_apply _ _).trans h3), g4.trans ((first_apply _ _).trans h4)⟩
  · exact g5.trans ((first_apply _ _).trans (rowKey_apply _ _))
  · exact g6.trans ((first_apply _ _).trans (rowBig_apply _))

/-- The key of a table's entry. -/
theorem tabs_apply (T : BitVec 32) (b : FVec Ideal S1x4x20000 .f32) (s : FVec Ideal S1x1x20000 .f32) (j : Fin 20000) (a : Fin 8) (l : Fin 2560) :
    keyOf T (boxTab (table 0x00000000#32 (rowX1 b)) (table 0x00000000#32 (rowY1 b)) (table 0x00000000#32 (rowX2 b)) (table 0x00000000#32 (rowY2 b)) (table 0x00000000#32 (rowAr b)) a l)
        (boxOf b j) (table 0x4B800000#32 (rowKey s) (ValueIdx.ix2 a l)) (table 0x4B800000#32 (rowBig (F := Ideal)) (ValueIdx.ix2 a l))
      = if h : num8 a l < 20000 then keyAt T (boxOf b) (fun i => s (ix3 0 0 i)) j ⟨num8 a l, h⟩ else fillK := by
  unfold boxTab
  rw [← ix2_eq_valueIdx]
  simp only [table_apply]
  by_cases h : num8 a l < 20000
  · obtain ⟨h0, h1, h2, h3, h4⟩ := rows_apply b ⟨num8 a l, h⟩
    simp only [dif_pos h, h0, h1, h2, h3, h4, rowKey_apply, rowBig_apply]
    rfl
  · simp only [dif_neg h]
    unfold keyOf
    rw [ite_self, fill_eq]
    rfl

/-- The scores. -/
abbrev scoreOf (i : Fin 20000) : EReal := (arg m c main_arg1 : FVec Ideal S1x1x20000 .f32) (ix3 0 0 i)

/-- A mask of the body at a column is the reference's. -/
theorem mask_col (T : BitVec 32) (t : Fin cfg0.N) (q : Fin 1000) (hs : ∀ i, 0 ≤ scoreOf m c i) (S : FVec Ideal S8x1000 .f32)
    (hS : ∀ a (x : EReal), S (ValueIdx.ix2 a q) < x ↔ Ideal.ofBits .f32 0x4B800000#32 < x ∨ ∃ l : Fin 2560,
      keyOf T (boxTab (iblk m c 6 t) (iblk m c 7 t) (iblk m c 8 t) (iblk m c 9 t) (iblk m c 10 t) a l)
        (boxAt (rowB (iblk m c 0 t)) (rowB (iblk m c 1 t)) (rowB (iblk m c 2 t)) (rowB (iblk m c 3 t)) (rowB (iblk m c 4 t)) q)
        (iblk m c 11 t (ValueIdx.ix2 a l)) (iblk m c 12 t (ValueIdx.ix2 a l)) < x) :
    maskK (selfKey T (iblk m c 0 t) (iblk m c 1 t) (iblk m c 2 t) (iblk m c 3 t) (iblk m c 4 t) (iblk m c 5 t)) S (ix2 0 q)
      = maskR T (Cert.ReferenceIdeal.Read.val_main_v51 (F := Ideal) (arg m c main_arg0)) (Cert.ReferenceIdeal.Read.val_main_v1 (F := Ideal) (arg m c main_arg1)) (ix3 0 0 (at1000 t q)) := by
  classical
  obtain ⟨b5, b6, b7, b8, b9, b10, b11, b12, -⟩ := iblk_whole m c t
  obtain ⟨d1, d2, d3⟩ := heads_apply (arg m c main_arg0) (arg m c main_arg1) q
  have hb := box_eq m c t q
  have hat : boxAt (rowB (iblk m c 0 t)) (rowB (iblk m c 1 t)) (rowB (iblk m c 2 t)) (rowB (iblk m c 3 t)) (rowB (iblk m c 4 t)) q = boxOf (arg m c main_arg0) (at1000 t q) := by
    unfold boxAt
    rw [← ix2_eq_valueIdx]
    simp only [rowB_apply]
    exact hb
  have hk : selfKey T (iblk m c 0 t) (iblk m c 1 t) (iblk m c 2 t) (iblk m c 3 t) (iblk m c 4 t) (iblk m c 5 t) (ix2 0 q)
      = keyAt T (boxOf (arg m c main_arg0)) (scoreOf m c) (at1000 t q) (at1000 0 q) := by
    rw [selfKey_apply, hb, b5, V_heads, d1, d2, d3]
    rfl
  have htop : Ideal.ofBits .f32 0x7F800000#32 = (⊤ : EReal) := by
    simp [Ideal.ofBits, Ideal.ieee]
  rw [hat, b6, b7, b8, b9, b10, b11, b12, V_tab_x1, V_tab_y1, V_tab_x2, V_tab_y2, V_tab_ar, V_tab_key, V_tab_big, fill_eq] at hS
  have hm := tiles_iff T (boxOf (arg m c main_arg0)) (scoreOf m c) hs (at1000 t q) (at1000 0 q) (fun a => S (ix2 a q)) _
    (fun a x => by rw [ix2_eq_valueIdx]; exact hS a x) (tabs_apply T (arg m c main_arg0) (arg m c main_arg1) (at1000 t q))
  rw [maskK_apply _ _ _ (by rw [htop]; exact le_top), hk, maskR_apply _ _ _ _ (at1000 0 q) (by show 0 * 1000 + q.val = (t.val * 1000 + q.val) % 1000; omega)]
  simp only [v51_apply, v1_apply]
  by_cases h : First (leftOf T (boxOf (arg m c main_arg0)) (scoreOf m c) (at1000 t q)) (at1000 0 q)
  · rw [if_neg (mt hm.mp (not_not.mpr h))]
    exact (if_pos h).symm
  · rw [if_pos (hm.mpr h)]
    exact (if_neg h).symm

/-- The fourth output. -/
theorem body_loc (t : Fin cfg0.N) (q : Fin 1000) (hs : ∀ i, 0 ≤ scoreOf m c i) : (outsAt0 m c t).2.2.2 (ix3 0 0 q)
    = Cert.ReferenceIdeal.Read.val_main_v218 (F := Ideal) (arg m c main_arg0) (arg m c main_arg1) (arg m c main_arg2) (arg m c main_arg3) (arg m c main_arg4) (arg m c main_arg5) (arg m c main_arg6) (ix3 0 0 (at1000 t q)) := by
  obtain ⟨s1, s2, s3, e, H⟩ := out29_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)
  have e' : (outsAt0 m c t).2.2.2 = locOut (maskK (selfKey 0x3ECCCCCD#32 (iblk m c 0 t) (iblk m c 1 t) (iblk m c 2 t) (iblk m c 3 t) (iblk m c 4 t) (iblk m c 5 t)) s1)
      (maskK (selfKey 0x3F19999A#32 (iblk m c 0 t) (iblk m c 1 t) (iblk m c 2 t) (iblk m c 3 t) (iblk m c 4 t) (iblk m c 5 t)) s2)
      (maskK (selfKey 0x3F4CCCCD#32 (iblk m c 0 t) (iblk m c 1 t) (iblk m c 2 t) (iblk m c 3 t) (iblk m c 4 t) (iblk m c 5 t)) s3)
      (weightsK (iblk m c 13 t) (iblk m c 14 t) (iblk m c 15 t) (iblk m c 16 t) (iblk m c 17 t)) := by
    dsimp only [outsAt0]
    exact e
  obtain ⟨b5, b6, b7, b8, b9, b10, b11, b12, b14, b15, b16, b17, -⟩ := iblk_whole m c t
  obtain ⟨h4, h6, -, -, -⟩ := bias_apply (arg m c main_arg4) (arg m c main_arg6) (arg m c main_arg8) (arg m c main_arg10) (arg m c main_arg14)
  rw [e', locOut_apply, v218_eq, sumR_apply, mask_col m c _ t q hs s1 (fun a x => (H a q x).1), mask_col m c _ t q hs s2 (fun a x => (H a q x).2.1),
    mask_col m c _ t q hs s3 (fun a x => (H a q x).2.2)]
  simp only [weightsK_apply, v215_apply]
  rw [feat_eq, b14, b15, b16, b17, V_weight3, V_weight5, V_bias4, V_bias6]
  simp only [h4, h6]

end Cert.Peak

end
-- ==== Proof.Tail.lean ====
/- The lines after the kernel's launch: the four results over the four outputs' arrays. -/
module

public import proofs.«01_k».proof.Proof.Final

@[expose] public section

set_option maxRecDepth 16384

noncomputable section

namespace Cert.Peak

open Idealize.ShloMosaic Idealize.ShloMosaic.TcCoe Idealize.ShloMosaic.Tactic Cert.KernelIdeal Cert.KernelIdeal.Gen
open Cert.KernelIdeal.Facts Idealize.ShloMosaic.Pipeline

/-- A row of blocks as one row. -/
def joinRow (x : FVec Ideal S20x1x1000 .f32) : FVec Ideal S1x1x20000 .f32 := shapeCast S1x1x20000 x shapeCasts_S20x1x1000_S1x1x20000

/-- Four rows of blocks as four rows. -/
def joinFour (x : FVec Ideal S20x4x1000 .f32) : FVec Ideal S1x4x20000 .f32 :=
  shapeCast S1x4x20000 (transpose S4x20x1000 [1, 0, 2] x transposes_S20x4x1000_S4x20x1000_1_0_2) shapeCasts_S4x20x1000_S1x4x20000

/-- The block of a column. -/
theorem at1000_div (t : Fin 20) (q : Fin 1000) {h : (at1000 t q).val / 1000 < 20} : (⟨(at1000 t q).val / 1000, h⟩ : Fin 20) = t :=
  Fin.ext (by show (t.val * 1000 + q.val) / 1000 = t.val; omega)

/-- The place of a column in its block. -/
theorem at1000_mod (t : Fin 20) (q : Fin 1000) {h : (at1000 t q).val % 1000 < 1000} : (⟨(at1000 t q).val % 1000, h⟩ : Fin 1000) = q :=
  Fin.ext (by show (t.val * 1000 + q.val) % 1000 = q.val; omega)

/-- Every column lies in some block. -/
theorem at1000_surj (j : Fin 20000) : ∃ t q, j = at1000 t q :=
  ⟨⟨j.val / 1000, by omega⟩, ⟨j.val % 1000, by omega⟩, Fin.ext (by show j.val = j.val / 1000 * 1000 + j.val % 1000; omega)⟩

/-- Two rows equal at every block's columns are equal. -/
theorem row_ext {x y : FVec Ideal S1x1x20000 .f32} (h : ∀ t q, x (ix3 0 0 (at1000 t q)) = y (ix3 0 0 (at1000 t q))) : x = y := by
  funext i
  obtain ⟨t, q, e⟩ := at1000_surj (i 2)
  have hi : i = ix3 0 0 (at1000 t q) := by
    rw [← e]
    funext d
    match d with
    | 0 => exact Fin.ext (by show (i 0).val = 0; have : (i 0).val < 1 := (i 0).isLt; omega)
    | 1 => exact Fin.ext (by show (i 1).val = 0; have : (i 1).val < 1 := (i 1).isLt; omega)
    | 2 => rfl
  rw [hi]
  exact h t q

/-- Four rows equal at every block's columns are equal. -/
theorem four_ext {x y : FVec Ideal S1x4x20000 .f32} (h : ∀ o t q, x (ix3 0 o (at1000 t q)) = y (ix3 0 o (at1000 t q))) : x = y := by
  funext i
  obtain ⟨t, q, e⟩ := at1000_surj (i 2)
  have hi : i = ix3 0 (i 1) (at1000 t q) := by
    rw [← e]
    funext d
    match d with
    | 0 => exact Fin.ext (by show (i 0).val = 0; have : (i 0).val < 1 := (i 0).isLt; omega)
    | 1 => rfl
    | 2 => rfl
  rw [hi]
  exact h _ t q

/-- The one row at a column. -/
theorem joinRow_apply (x : FVec Ideal S20x1x1000 .f32) (t : Fin 20) (q : Fin 1000) : joinRow x (ix3 0 0 (at1000 t q)) = x (ix3 t 0 q) := by
  pointwise [joinRow]
  rw [at1000_div, at1000_mod]

/-- The four rows at a column. -/
theorem joinFour_apply (x : FVec Ideal S20x4x1000 .f32) (o : Fin 4) (t : Fin 20) (q : Fin 1000) : joinFour x (ix3 0 o (at1000 t q)) = x (ix3 t o q) := by
  pointwise [joinFour]
  rw [at1000_div, at1000_mod]

variable (m : (ℓ : Loc nD τ sig) → Buf (Elt Ideal) ℓ) (c : Dev nD)

/-- The windows' arrays are distinct. -/
theorem arr_inj : Function.Injective (Pipeline.arrRef spec0) := by decide +kernel

/-- The result `pi` over its output's array. -/
theorem tail_pi : Pipeline.afterTail₀ cfgs (dats m) 0 (V0 m) [hostOps1] c main_v86 = joinRow ((dats m 0 c).arrAt 26 cfg0.N) := by
  unfold Pipeline.afterTail₀
  simp only [List.flatten_cons, List.flatten_nil, List.append_nil]
  after_reads_simp
  exact congrArg joinRow (Pipeline.withArrays_arr spec0 arr_inj c (V0 m c) (fun w => (dats m 0 c).arrAt w cfg0.N) 26)

/-- The result `mu` over its output's array. -/
theorem tail_mu : Pipeline.afterTail₀ cfgs (dats m) 0 (V0 m) [hostOps1] c main_v88 = joinFour ((dats m 0 c).arrAt 27 cfg0.N) := by
  unfold Pipeline.afterTail₀
  simp only [List.flatten_cons, List.flatten_nil, List.append_nil]
  after_reads_simp
  exact congrArg joinFour (Pipeline.withArrays_arr spec0 arr_inj c (V0 m c) (fun w => (dats m 0 c).arrAt w cfg0.N) 27)

/-- The result `gamma` over its output's array. -/
theorem tail_gamma : Pipeline.afterTail₀ cfgs (dats m) 0 (V0 m) [hostOps1] c main_v90 = joinFour ((dats m 0 c).arrAt 28 cfg0.N) := by
  unfold Pipeline.afterTail₀
  simp only [List.flatten_cons, List.flatten_nil, List.append_nil]
  after_reads_simp
  exact congrArg joinFour (Pipeline.withArrays_arr spec0 arr_inj c (V0 m c) (fun w => (dats m 0 c).arrAt w cfg0.N) 28)

/-- The result `loc` over its output's array. -/
theorem tail_loc : Pipeline.afterTail₀ cfgs (dats m) 0 (V0 m) [hostOps1] c main_v91 = joinRow ((dats m 0 c).arrAt 29 cfg0.N) := by
  unfold Pipeline.afterTail₀
  simp only [List.flatten_cons, List.flatten_nil, List.append_nil]
  after_reads_simp
  exact congrArg joinRow (Pipeline.withArrays_arr spec0 arr_inj c (V0 m c) (fun w => (dats m 0 c).arrAt w cfg0.N) 29)

/-- The result `pi` is the reference's. -/
theorem result_pi : Pipeline.afterTail₀ cfgs (dats m) 0 (V0 m) [hostOps1] c main_v86 = Cert.ReferenceIdeal.Read.val_main_v280 (F := Ideal) (arg m c main_arg2) (arg m c main_arg7) (arg m c main_arg8) (arg m c main_arg9) (arg m c main_arg10) := by
  rw [tail_pi, arr26]
  exact row_ext fun t q => (joinRow_apply _ t q).trans (body_pi m c t q)

/-- The result `mu` is the reference's. -/
theorem result_mu : Pipeline.afterTail₀ cfgs (dats m) 0 (V0 m) [hostOps1] c main_v88 = Cert.ReferenceIdeal.Read.val_main_v282 (F := Ideal) (arg m c main_arg0) := by
  rw [tail_mu, arr27]
  exact four_ext fun o t q => (joinFour_apply _ o t q).trans (body_mu m c t o q)

/-- The result `gamma` is the reference's. -/
theorem result_gamma : Pipeline.afterTail₀ cfgs (dats m) 0 (V0 m) [hostOps1] c main_v90 = Cert.ReferenceIdeal.Read.val_main_v380 (F := Ideal) (arg m c main_arg0) (arg m c main_arg2) (arg m c main_arg11) (arg m c main_arg12) (arg m c main_arg13) (arg m c main_arg14) := by
  rw [tail_gamma, arr28]
  exact four_ext fun o t q => (joinFour_apply _ o t q).trans (body_gamma m c t o q)

/-- The result `loc` is the reference's. -/
theorem result_loc (hs : ∀ i, 0 ≤ scoreOf m c i) : Pipeline.afterTail₀ cfgs (dats m) 0 (V0 m) [hostOps1] c main_v91 = Cert.ReferenceIdeal.Read.val_main_v218 (F := Ideal) (arg m c main_arg0) (arg m c main_arg1) (arg m c main_arg2) (arg m c main_arg3) (arg m c main_arg4) (arg m c main_arg5) (arg m c main_arg6) := by
  rw [tail_loc, arr29]
  exact row_ext fun t q => (joinRow_apply _ t q).trans (body_loc m c t q hs)

end Cert.Peak

end
-- ==== Proof.Same.lean ====
/- The two programs' four results agree when every score is at least zero. -/
module

public import proofs.«01_k».proof.Defs
public import proofs.«01_k».proof.Proof.Tail
public import proofs.«01_k».proof.Proof.Gen.ReferenceIdeal.Run
public import Idealize.ShloMosaic.Lib.ReduceAll

@[expose] public section

set_option maxRecDepth 16384

noncomputable section

namespace Cert.Peak

open Idealize.ShloMosaic Idealize.ShloMosaic.TcCoe Idealize.ShloMosaic.Tactic Idealize.SL.Sem

/-- The shape facts the precondition states. -/
theorem scoreFacts : Cert.Pre_score_nonneg.Facts where
  bcast_S_S1x1x20000 := by decide
  reducesTo_S1x1x20000_S_d0_1_2 := by decide
  h_S_ := by decide

/-- An ordered comparison over the extended reals that is one is the order. -/
theorem le_of_oge {a b : EReal} (h : FloatOps.cmpf (F := Ideal) (φ := .f32) .oge a b = 1#1) : b ≤ a := by
  by_contra hn
  have : FloatOps.cmpf (F := Ideal) (φ := .f32) .oge a b = 0#1 := by
    show BitVec.ofBool (decide (b ≤ a)) = 0#1
    rw [decide_eq_false hn]
    rfl
  rw [this] at h
  exact absurd h (by decide)

/-- The precondition at one score. -/
theorem score_nonneg (m : (ℓ : Loc Cert.KernelIdeal.nD Cert.KernelIdeal.τ Cert.KernelIdeal.sig) → Buf (Elt Ideal) ℓ)
    (h : Cert.Pre_KernelIdeal_score_nonneg (hPre_score_nonneg := scoreFacts) m) (c : Dev Cert.KernelIdeal.nD) (i : Fin 20000) : 0 ≤ scoreOf m c i := by
  haveI : Subsingleton Cert.Pre_score_nonneg.S_.Idx := ⟨fun a b => funext fun d => d.elim0⟩
  have e := congrFun (h c) (fun d => d.elim0)
  have e' := Host.reduce_andi_all _ _ _ _ _ e (ix3 0 0 i)
  have e'' := le_of_oge e'
  exact Ideal.ofBits_zero_f32.symm.trans_le e''

/-- The reference's result `pi` at the kernel's arguments. -/
abbrev want_pi (m : (ℓ : Loc Cert.KernelIdeal.nD Cert.KernelIdeal.τ Cert.KernelIdeal.sig) → Buf (Elt Ideal) ℓ) (c : Dev Cert.KernelIdeal.nD) :=
  Cert.ReferenceIdeal.Read.val_main_v280 (F := Ideal) (arg m c Cert.KernelIdeal.main_arg2) (arg m c Cert.KernelIdeal.main_arg7) (arg m c Cert.KernelIdeal.main_arg8) (arg m c Cert.KernelIdeal.main_arg9) (arg m c Cert.KernelIdeal.main_arg10)

/-- The reference's result `mu` at the kernel's arguments. -/
abbrev want_mu (m : (ℓ : Loc Cert.KernelIdeal.nD Cert.KernelIdeal.τ Cert.KernelIdeal.sig) → Buf (Elt Ideal) ℓ) (c : Dev Cert.KernelIdeal.nD) :=
  Cert.ReferenceIdeal.Read.val_main_v282 (F := Ideal) (arg m c Cert.KernelIdeal.main_arg0)

/-- The reference's result `gamma` at the kernel's arguments. -/
abbrev want_gamma (m : (ℓ : Loc Cert.KernelIdeal.nD Cert.KernelIdeal.τ Cert.KernelIdeal.sig) → Buf (Elt Ideal) ℓ) (c : Dev Cert.KernelIdeal.nD) :=
  Cert.ReferenceIdeal.Read.val_main_v380 (F := Ideal) (arg m c Cert.KernelIdeal.main_arg0) (arg m c Cert.KernelIdeal.main_arg2) (arg m c Cert.KernelIdeal.main_arg11) (arg m c Cert.KernelIdeal.main_arg12) (arg m c Cert.KernelIdeal.main_arg13) (arg m c Cert.KernelIdeal.main_arg14)

/-- The reference's result `loc` at the kernel's arguments. -/
abbrev want_loc (m : (ℓ : Loc Cert.KernelIdeal.nD Cert.KernelIdeal.τ Cert.KernelIdeal.sig) → Buf (Elt Ideal) ℓ) (c : Dev Cert.KernelIdeal.nD) :=
  Cert.ReferenceIdeal.Read.val_main_v218 (F := Ideal) (arg m c Cert.KernelIdeal.main_arg0) (arg m c Cert.KernelIdeal.main_arg1) (arg m c Cert.KernelIdeal.main_arg2) (arg m c Cert.KernelIdeal.main_arg3) (arg m c Cert.KernelIdeal.main_arg4) (arg m c Cert.KernelIdeal.main_arg5) (arg m c Cert.KernelIdeal.main_arg6)

/-- Every launch of the kernel ends with the reference's results, its arguments unchanged; every launch of the reference on the same
    arguments does too. -/
theorem algebraic : Cert.algebraic_KernelIdeal_ReferenceIdeal_pre_score_nonneg (hKernelIdeal := Cert.KernelIdeal.Gen.facts)
    (hReferenceIdeal := Cert.ReferenceIdeal.Gen.facts) (hPre_score_nonneg := scoreFacts) := by
  intro m g m' g' hpre hargs
  have hs := score_nonneg m hpre
  refine ⟨want_pi m, want_mu m, want_gamma m, want_loc m, ?_, ?_⟩
  · refine (θ_run Cert.KernelIdeal.defs _ _).mono (fun r h c => ?_)
      (θ_run_and (Cert.KernelIdeal.Gen.run_main m g) (Cert.KernelIdeal.Gen.unchanged m g))
    exact ⟨((h.1 c).2 Cert.KernelIdeal.main_v86 (by decide)).trans (result_pi m c),
      ((h.1 c).2 Cert.KernelIdeal.main_v88 (by decide)).trans (result_mu m c),
      ((h.1 c).2 Cert.KernelIdeal.main_v90 (by decide)).trans (result_gamma m c),
      ((h.1 c).2 Cert.KernelIdeal.main_v91 (by decide)).trans (result_loc m c (hs c)), h.2 c⟩
  · refine (θ_run Cert.ReferenceIdeal.defs _ _).mono (fun r h c => ?_) (Cert.ReferenceIdeal.Value.run (F := Ideal) m' g')
    obtain ⟨h0, h1, h2, h3, h4, h5, h6, h7, h8, h9, h10, h11, h12, h13, h14⟩ := hargs c
    obtain ⟨r0, r1, r2, r3, rest⟩ := h c
    refine ⟨r0.trans ((Cert.ReferenceIdeal.Read.val_main_v280_eq (Idealize.ShloMosaic.StableHlo.launchContents m' c)).trans ?_),
      r1.trans ((Cert.ReferenceIdeal.Read.val_main_v282_eq (Idealize.ShloMosaic.StableHlo.launchContents m' c)).trans ?_),
      r2.trans ((Cert.ReferenceIdeal.Read.val_main_v380_eq (Idealize.ShloMosaic.StableHlo.launchContents m' c)).trans ?_),
      r3.trans ((Cert.ReferenceIdeal.Read.val_main_v218_eq (Idealize.ShloMosaic.StableHlo.launchContents m' c)).trans ?_), rest⟩
    · show Cert.ReferenceIdeal.Read.val_main_v280 (F := Ideal) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) = _
      rw [h2, h7, h8, h9, h10]
    · show Cert.ReferenceIdeal.Read.val_main_v282 (F := Ideal) (m' ((c.tc : Thread Cert.ReferenceIdeal.nD Cert.ReferenceIdeal.τ).loc Cert.ReferenceIdeal.main_arg0)) = _
      rw [h0]
    · show Cert.ReferenceIdeal.Read.val_main_v380 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) = _
      rw [h0, h2, h11, h12, h13, h14]
    · show Cert.ReferenceIdeal.Read.val_main_v218 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) = _
      rw [h0, h1, h2, h3, h4, h5, h6]

end Cert.Peak

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Own.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Own.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Same
public import Idealize.ShloMosaic.Adequacy
public import Idealize.ShloMosaic.Init

@[expose] public section

noncomputable section

namespace Cert.Proof

open Idealize.ShloMosaic Idealize.SL.Sem Cert.Kernel

/-- The reference runs, keeps its arguments and leaves every semaphore at zero: its run read at the arguments. -/
theorem frame_reference : Cert.quiescent_ReferenceIdeal (hReferenceIdeal := Cert.ReferenceIdeal.Gen.facts) := by
  intro m ρ _
  exact (θ_run Cert.ReferenceIdeal.defs _ _).mono (fun r h => ⟨fun c => (h c).2.2.2.2, Idealize.ShloMosaic.sem_eq_zero_of_no_sems (by decide) r.2⟩)
    (Cert.ReferenceIdeal.Value.run (F := Ideal) m ρ)

/-- The whole claim. -/
theorem claim : Cert.Claim := ⟨Cert.Kernel.Gen.facts, Cert.KernelIdeal.Gen.facts, Cert.ReferenceIdeal.Gen.facts, Cert.Peak.scoreFacts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, trivial, Cert.Peak.algebraic⟩

end Cert.Proof

end
